-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S16384x4 : Shape := ⟨2, ![16384, 4]⟩
abbrev S16384x19 : Shape := ⟨2, ![16384, 19]⟩
abbrev S6050x16 : Shape := ⟨2, ![6050, 16]⟩
abbrev S2x16 : Shape := ⟨2, ![2, 16]⟩
abbrev S7x16 : Shape := ⟨2, ![7, 16]⟩
abbrev S25x16 : Shape := ⟨2, ![25, 16]⟩
abbrev S4000x16 : Shape := ⟨2, ![4000, 16]⟩
abbrev S18x2x4 : Shape := ⟨3, ![18, 2, 4]⟩
abbrev S64x128 : Shape := ⟨2, ![64, 128]⟩
abbrev S128 : Shape := ⟨1, ![128]⟩
abbrev S128x128 : Shape := ⟨2, ![128, 128]⟩
abbrev S88x128 : Shape := ⟨2, ![88, 128]⟩
abbrev S128x6 : Shape := ⟨2, ![128, 6]⟩
abbrev S6 : Shape := ⟨1, ![6]⟩
abbrev S_ : Shape := ⟨0, ![]⟩
abbrev S1x16 : Shape := ⟨2, ![1, 16]⟩
abbrev S18x1x4 : Shape := ⟨3, ![18, 1, 4]⟩

class Facts : Prop where
  bcast_S_S16384x4 : S_.BroadcastsInDim S16384x4 (![] : Fin 0 → Fin S16384x4.rank)
  reducesTo_S16384x4_S_d0_1 : S16384x4.ReducesTo [0, 1] S_
  h_S_ : 0 < S_.numel
  bcast_S_S16384x19 : S_.BroadcastsInDim S16384x19 (![] : Fin 0 → Fin S16384x19.rank)
  reducesTo_S16384x19_S_d0_1 : S16384x19.ReducesTo [0, 1] S_
  slices_S6050x16_S1x16_0_0 : S6050x16.Slices ![0, 0] S1x16
  bcast_S_S1x16 : S_.BroadcastsInDim S1x16 (![] : Fin 0 → Fin S1x16.rank)
  reducesTo_S1x16_S_d0_1 : S1x16.ReducesTo [0, 1] S_
  slices_S2x16_S1x16_0_0 : S2x16.Slices ![0, 0] S1x16
  slices_S7x16_S1x16_0_0 : S7x16.Slices ![0, 0] S1x16
  slices_S25x16_S1x16_0_0 : S25x16.Slices ![0, 0] S1x16
  slices_S4000x16_S1x16_0_0 : S4000x16.Slices ![0, 0] S1x16
  slices_S18x2x4_S18x1x4_0_0_0 : S18x2x4.Slices ![0, 0, 0] S18x1x4
  bcast_S_S18x1x4 : S_.BroadcastsInDim S18x1x4 (![] : Fin 0 → Fin S18x1x4.rank)
  reducesTo_S18x1x4_S_d0_1_2 : S18x1x4.ReducesTo [0, 1, 2] S_
  bcast_S_S64x128 : S_.BroadcastsInDim S64x128 (![] : Fin 0 → Fin S64x128.rank)
  reducesTo_S64x128_S_d0_1 : S64x128.ReducesTo [0, 1] S_
  bcast_S_S88x128 : S_.BroadcastsInDim S88x128 (![] : Fin 0 → Fin S88x128.rank)
  reducesTo_S88x128_S_d0_1 : S88x128.ReducesTo [0, 1] S_

variable [Facts]

def fn_part3 {F : FTy → Type} [FloatOps F] (main_arg12 : FVec F S88x128 .f32) (main_v48 : IVec S_ 1) (main_v51 : IVec S64x128 1) (main_c_17 : IVec S_ 1) : IVec S_ 1 :=
  let main_v52 : IVec S_ 1 := (fun x v => Host.reduce IntOp.andi x v reducesTo_S64x128_S_d0_1 h_S_) main_v51 main_c_17
  let main_v53 : IVec S_ 1 := andi main_v48 main_v52
  let main_v54 : FVec F S88x128 .f32 := Host.absf main_arg12
  let main_cst_18 : FVec F S_ .f32 := constant S_ .f32 0x7F800000#32
  let main_v55 : FVec F S88x128 .f32 := broadcastInDim S88x128 ![] bcast_S_S88x128 main_cst_18
  let main_v56 : IVec S88x128 1 := cmpf .olt main_v54 main_v55
  let main_c_19 : IVec S_ 1 := constantI S_ 1 1#1
  let main_v57 : IVec S_ 1 := (fun x v => Host.reduce IntOp.andi x v reducesTo_S88x128_S_d0_1 h_S_) main_v56 main_c_19
  let main_v58 : IVec S_ 1 := andi main_v53 main_v57
  main_v58

def fn_part2 {F : FTy → Type} [FloatOps F] (main_arg6 : FVec F S4000x16 .f32) (main_arg7 : FVec F S18x2x4 .f32) (main_arg8 : FVec F S64x128 .f32) (main_arg12 : FVec F S88x128 .f32) (main_v30 : IVec S_ 1) (main_v34 : IVec S1x16 1) : IVec S_ 1 :=
  let main_c_11 : IVec S_ 1 := constantI S_ 1 1#1
  let main_v35 : IVec S_ 1 := (fun x v => Host.reduce IntOp.andi x v reducesTo_S1x16_S_d0_1 h_S_) main_v34 main_c_11
  let main_v36 : IVec S_ 1 := andi main_v30 main_v35
  let main_v37 : FVec F S1x16 .f32 := (extractStridedSlice S1x16 ![0, 0] · slices_S4000x16_S1x16_0_0) main_arg6
  let main_v38 : FVec F S1x16 .f32 := Host.absf main_v37
  let main_cst_12 : FVec F S_ .f32 := constant S_ .f32 0x7F800000#32
  let main_v39 : FVec F S1x16 .f32 := broadcastInDim S1x16 ![] bcast_S_S1x16 main_cst_12
  let main_v40 : IVec S1x16 1 := cmpf .olt main_v38 main_v39
  let main_c_13 : IVec S_ 1 := constantI S_ 1 1#1
  let main_v41 : IVec S_ 1 := (fun x v => Host.reduce IntOp.andi x v reducesTo_S1x16_S_d0_1 h_S_) main_v40 main_c_13
  let main_v42 : IVec S_ 1 := andi main_v36 main_v41
  let main_v43 : FVec F S18x1x4 .f32 := (extractStridedSlice S18x1x4 ![0, 0, 0] · slices_S18x2x4_S18x1x4_0_0_0) main_arg7
  let main_v44 : FVec F S18x1x4 .f32 := Host.absf main_v43
  let main_cst_14 : FVec F S_ .f32 := constant S_ .f32 0x7F800000#32
  let main_v45 : FVec F S18x1x4 .f32 := broadcastInDim S18x1x4 ![] bcast_S_S18x1x4 main_cst_14
  let main_v46 : IVec S18x1x4 1 := cmpf .olt main_v44 main_v45
  let main_c_15 : IVec S_ 1 := constantI S_ 1 1#1
  let main_v47 : IVec S_ 1 := (fun x v => Host.reduce IntOp.andi x v reducesTo_S18x1x4_S_d0_1_2 h_S_) main_v46 main_c_15
  let main_v48 : IVec S_ 1 := andi main_v42 main_v47
  let main_v49 : FVec F S64x128 .f32 := Host.absf main_arg8
  let main_cst_16 : FVec F S_ .f32 := constant S_ .f32 0x7F800000#32
  let main_v50 : FVec F S64x128 .f32 := broadcastInDim S64x128 ![] bcast_S_S64x128 main_cst_16
  let main_v51 : IVec S64x128 1 := cmpf .olt main_v49 main_v50
  let main_c_17 : IVec S_ 1 := constantI S_ 1 1#1
  fn_part3 (F := F) main_arg12 main_v48 main_v51 main_c_17

def fn_part1 {F : FTy → Type} [FloatOps F] (main_arg3 : FVec F S2x16 .f32) (main_arg4 : FVec F S7x16 .f32) (main_arg5 : FVec F S25x16 .f32) (main_arg6 : FVec F S4000x16 .f32) (main_arg7 : FVec F S18x2x4 .f32) (main_arg8 : FVec F S64x128 .f32) (main_arg12 : FVec F S88x128 .f32) (main_v12 : IVec S_ 1) (main_v16 : IVec S1x16 1) : IVec S_ 1 :=
  let main_c_5 : IVec S_ 1 := constantI S_ 1 1#1
  let main_v17 : IVec S_ 1 := (fun x v => Host.reduce IntOp.andi x v reducesTo_S1x16_S_d0_1 h_S_) main_v16 main_c_5
  let main_v18 : IVec S_ 1 := andi main_v12 main_v17
  let main_v19 : FVec F S1x16 .f32 := (extractStridedSlice S1x16 ![0, 0] · slices_S2x16_S1x16_0_0) main_arg3
  let main_v20 : FVec F S1x16 .f32 := Host.absf main_v19
  let main_cst_6 : FVec F S_ .f32 := constant S_ .f32 0x7F800000#32
  let main_v21 : FVec F S1x16 .f32 := broadcastInDim S1x16 ![] bcast_S_S1x16 main_cst_6
  let main_v22 : IVec S1x16 1 := cmpf .olt main_v20 main_v21
  let main_c_7 : IVec S_ 1 := constantI S_ 1 1#1
  let main_v23 : IVec S_ 1 := (fun x v => Host.reduce IntOp.andi x v reducesTo_S1x16_S_d0_1 h_S_) main_v22 main_c_7
  let main_v24 : IVec S_ 1 := andi main_v18 main_v23
  let main_v25 : FVec F S1x16 .f32 := (extractStridedSlice S1x16 ![0, 0] · slices_S7x16_S1x16_0_0) main_arg4
  let main_v26 : FVec F S1x16 .f32 := Host.absf main_v25
  let main_cst_8 : FVec F S_ .f32 := constant S_ .f32 0x7F800000#32
  let main_v27 : FVec F S1x16 .f32 := broadcastInDim S1x16 ![] bcast_S_S1x16 main_cst_8
  let main_v28 : IVec S1x16 1 := cmpf .olt main_v26 main_v27
  let main_c_9 : IVec S_ 1 := constantI S_ 1 1#1
  let main_v29 : IVec S_ 1 := (fun x v => Host.reduce IntOp.andi x v reducesTo_S1x16_S_d0_1 h_S_) main_v28 main_c_9
  let main_v30 : IVec S_ 1 := andi main_v24 main_v29
  let main_v31 : FVec F S1x16 .f32 := (extractStridedSlice S1x16 ![0, 0] · slices_S25x16_S1x16_0_0) main_arg5
  let main_v32 : FVec F S1x16 .f32 := Host.absf main_v31
  let main_cst_10 : FVec F S_ .f32 := constant S_ .f32 0x7F800000#32
  let main_v33 : FVec F S1x16 .f32 := broadcastInDim S1x16 ![] bcast_S_S1x16 main_cst_10
  let main_v34 : IVec S1x16 1 := cmpf .olt main_v32 main_v33
  fn_part2 (F := F) main_arg6 main_arg7 main_arg8 main_arg12 main_v30 main_v34

def fn {F : FTy → Type} [FloatOps F] (main_arg0 : IVec S16384x4 32) (main_arg1 : IVec S16384x19 32) (main_arg2 : FVec F S6050x16 .f32) (main_arg3 : FVec F S2x16 .f32) (main_arg4 : FVec F S7x16 .f32) (main_arg5 : FVec F S25x16 .f32) (main_arg6 : FVec F S4000x16 .f32) (main_arg7 : FVec F S18x2x4 .f32) (main_arg8 : FVec F S64x128 .f32) (main_arg9 : FVec F S128 .f32) (main_arg10 : FVec F S128x128 .f32) (main_arg11 : FVec F S128 .f32) (main_arg12 : FVec F S88x128 .f32) (main_arg13 : FVec F S128 .f32) (main_arg14 : FVec F S128x128 .f32) (main_arg15 : FVec F S128 .f32) (main_arg16 : FVec F S128x6 .f32) (main_arg17 : FVec F S6 .f32) : IVec S_ 1 :=
  let main_c : IVec S_ 32 := constantI S_ 32 0#32
  let main_v0 : IVec S16384x4 32 := broadcastInDim S16384x4 ![] bcast_S_S16384x4 main_c
  let main_v1 : IVec S16384x4 1 := cmpi .sge main_arg0 main_v0
  let main_c_0 : IVec S_ 32 := constantI S_ 32 2#32
  let main_v2 : IVec S16384x4 32 := broadcastInDim S16384x4 ![] bcast_S_S16384x4 main_c_0
  let main_v3 : IVec S16384x4 1 := cmpi .slt main_arg0 main_v2
  let main_v4 : IVec S16384x4 1 := andi main_v1 main_v3
  let main_c_1 : IVec S_ 1 := constantI S_ 1 1#1
  let main_v5 : IVec S_ 1 := (fun x v => Host.reduce IntOp.andi x v reducesTo_S16384x4_S_d0_1 h_S_) main_v4 main_c_1
  let main_c_2 : IVec S_ 32 := constantI S_ 32 0#32
  let main_v6 : IVec S16384x19 32 := broadcastInDim S16384x19 ![] bcast_S_S16384x19 main_c_2
  let main_v7 : IVec S16384x19 1 := cmpi .sge main_arg1 main_v6
  let main_c_3 : IVec S_ 32 := constantI S_ 32 2#32
  let main_v8 : IVec S16384x19 32 := broadcastInDim S16384x19 ![] bcast_S_S16384x19 main_c_3
  let main_v9 : IVec S16384x19 1 := cmpi .slt main_arg1 main_v8
  let main_v10 : IVec S16384x19 1 := andi main_v7 main_v9
  let main_c_4 : IVec S_ 1 := constantI S_ 1 1#1
  let main_v11 : IVec S_ 1 := (fun x v => Host.reduce IntOp.andi x v reducesTo_S16384x19_S_d0_1 h_S_) main_v10 main_c_4
  let main_v12 : IVec S_ 1 := andi main_v5 main_v11
  let main_v13 : FVec F S1x16 .f32 := (extractStridedSlice S1x16 ![0, 0] · slices_S6050x16_S1x16_0_0) main_arg2
  let main_v14 : FVec F S1x16 .f32 := Host.absf main_v13
  let main_cst : FVec F S_ .f32 := constant S_ .f32 0x7F800000#32
  let main_v15 : FVec F S1x16 .f32 := broadcastInDim S1x16 ![] bcast_S_S1x16 main_cst
  let main_v16 : IVec S1x16 1 := cmpf .olt main_v14 main_v15
  fn_part1 (F := F) main_arg3 main_arg4 main_arg5 main_arg6 main_arg7 main_arg8 main_arg12 main_v12 main_v16
-- ==== Kernel.lean ====
abbrev S16384x4 : Shape := ⟨2, ![16384, 4]⟩
abbrev S16384x19 : Shape := ⟨2, ![16384, 19]⟩
abbrev S6050x16 : Shape := ⟨2, ![6050, 16]⟩
abbrev S2x16 : Shape := ⟨2, ![2, 16]⟩
abbrev S7x16 : Shape := ⟨2, ![7, 16]⟩
abbrev S25x16 : Shape := ⟨2, ![25, 16]⟩
abbrev S4000x16 : Shape := ⟨2, ![4000, 16]⟩
abbrev S18x2x4 : Shape := ⟨3, ![18, 2, 4]⟩
abbrev S64x128 : Shape := ⟨2, ![64, 128]⟩
abbrev S128 : Shape := ⟨1, ![128]⟩
abbrev S128x128 : Shape := ⟨2, ![128, 128]⟩
abbrev S88x128 : Shape := ⟨2, ![88, 128]⟩
abbrev S128x6 : Shape := ⟨2, ![128, 6]⟩
abbrev S6 : Shape := ⟨1, ![6]⟩
abbrev S1x16 : Shape := ⟨2, ![1, 16]⟩
abbrev S16 : Shape := ⟨1, ![16]⟩
abbrev S64 : Shape := ⟨1, ![64]⟩
abbrev S1x64 : Shape := ⟨2, ![1, 64]⟩
abbrev S18x1x4 : Shape := ⟨3, ![18, 1, 4]⟩
abbrev S18x4 : Shape := ⟨2, ![18, 4]⟩
abbrev S72 : Shape := ⟨1, ![72]⟩
abbrev S88 : Shape := ⟨1, ![88]⟩
abbrev S1x88 : Shape := ⟨2, ![1, 88]⟩
abbrev S1x128 : Shape := ⟨2, ![1, 128]⟩
abbrev S_ : Shape := ⟨0, ![]⟩
abbrev S7x128 : Shape := ⟨2, ![7, 128]⟩
abbrev S6x128 : Shape := ⟨2, ![6, 128]⟩
abbrev S2x128 : Shape := ⟨2, ![2, 128]⟩
abbrev S1x6 : Shape := ⟨2, ![1, 6]⟩
abbrev S456x128 : Shape := ⟨2, ![456, 128]⟩
abbrev S32x128 : Shape := ⟨2, ![32, 128]⟩
abbrev S488x128 : Shape := ⟨2, ![488, 128]⟩
abbrev S4x16384 : Shape := ⟨2, ![4, 16384]⟩
abbrev S19x16384 : Shape := ⟨2, ![19, 16384]⟩
abbrev S1x16384 : Shape := ⟨2, ![1, 16384]⟩
abbrev S24x16384 : Shape := ⟨2, ![24, 16384]⟩
abbrev S6x16384 : Shape := ⟨2, ![6, 16384]⟩
abbrev S16384x6 : Shape := ⟨2, ![16384, 6]⟩
abbrev S4x64 : Shape := ⟨2, ![4, 64]⟩
abbrev S4x128 : Shape := ⟨2, ![4, 128]⟩
abbrev S19x88 : Shape := ⟨2, ![19, 88]⟩
abbrev S19x128 : Shape := ⟨2, ![19, 128]⟩
abbrev S1x1 : Shape := ⟨2, ![1, 1]⟩
abbrev S128x1 : Shape := ⟨2, ![128, 1]⟩
abbrev S6x1 : Shape := ⟨2, ![6, 1]⟩
abbrev S4x16 : Shape := ⟨2, ![4, 16]⟩
abbrev S128x16 : Shape := ⟨2, ![128, 16]⟩
abbrev S16x1 : Shape := ⟨2, ![16, 1]⟩
abbrev S16x16384 : Shape := ⟨2, ![16, 16384]⟩
abbrev S128x16384 : Shape := ⟨2, ![128, 16384]⟩
abbrev S24x128 : Shape := ⟨2, ![24, 128]⟩

abbrev nBuf : Space → Nat
  | .hbm => 106
  | .vmem => 3
  | .smem => 0
  | _ => 0

abbrev bufTy : (tb : Table) → Fin (tcTables nBuf tb) → BufTy
  | .hbm, ⟨0, _⟩ => ⟨S16384x4, .i32⟩
  | .hbm, ⟨1, _⟩ => ⟨S16384x19, .i32⟩
  | .hbm, ⟨2, _⟩ => ⟨S6050x16, .f32⟩
  | .hbm, ⟨3, _⟩ => ⟨S2x16, .f32⟩
  | .hbm, ⟨4, _⟩ => ⟨S7x16, .f32⟩
  | .hbm, ⟨5, _⟩ => ⟨S25x16, .f32⟩
  | .hbm, ⟨6, _⟩ => ⟨S4000x16, .f32⟩
  | .hbm, ⟨7, _⟩ => ⟨S18x2x4, .f32⟩
  | .hbm, ⟨8, _⟩ => ⟨S64x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S88x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x6, .f32⟩
  | .hbm, ⟨17, _⟩ => ⟨S6, .f32⟩
  | .hbm, ⟨18, _⟩ => ⟨S1x16, .f32⟩
  | .hbm, ⟨19, _⟩ => ⟨S16, .f32⟩
  | .hbm, ⟨20, _⟩ => ⟨S1x16, .f32⟩
  | .hbm, ⟨21, _⟩ => ⟨S16, .f32⟩
  | .hbm, ⟨22, _⟩ => ⟨S1x16, .f32⟩
  | .hbm, ⟨23, _⟩ => ⟨S16, .f32⟩
  | .hbm, ⟨24, _⟩ => ⟨S1x16, .f32⟩
  | .hbm, ⟨25, _⟩ => ⟨S16, .f32⟩
  | .hbm, ⟨26, _⟩ => ⟨S64, .f32⟩
  | .hbm, ⟨27, _⟩ => ⟨S1x64, .f32⟩
  | .hbm, ⟨28, _⟩ => ⟨S1x16, .f32⟩
  | .hbm, ⟨29, _⟩ => ⟨S16, .f32⟩
  | .hbm, ⟨30, _⟩ => ⟨S1x16, .f32⟩
  | .hbm, ⟨31, _⟩ => ⟨S16, .f32⟩
  | .hbm, ⟨32, _⟩ => ⟨S1x16, .f32⟩
  | .hbm, ⟨33, _⟩ => ⟨S16, .f32⟩
  | .hbm, ⟨34, _⟩ => ⟨S1x16, .f32⟩
  | .hbm, ⟨35, _⟩ => ⟨S16, .f32⟩
  | .hbm, ⟨36, _⟩ => ⟨S64, .f32⟩
  | .hbm, ⟨37, _⟩ => ⟨S1x64, .f32⟩
  | .hbm, ⟨38, _⟩ => ⟨S1x16, .f32⟩
  | .hbm, ⟨39, _⟩ => ⟨S16, .f32⟩
  | .hbm, ⟨40, _⟩ => ⟨S18x1x4, .f32⟩
  | .hbm, ⟨41, _⟩ => ⟨S18x4, .f32⟩
  | .hbm, ⟨42, _⟩ => ⟨S72, .f32⟩
  | .hbm, ⟨43, _⟩ => ⟨S88, .f32⟩
  | .hbm, ⟨44, _⟩ => ⟨S1x88, .f32⟩
  | .hbm, ⟨45, _⟩ => ⟨S1x16, .f32⟩
  | .hbm, ⟨46, _⟩ => ⟨S16, .f32⟩
  | .hbm, ⟨47, _⟩ => ⟨S18x1x4, .f32⟩
  | .hbm, ⟨48, _⟩ => ⟨S18x4, .f32⟩
  | .hbm, ⟨49, _⟩ => ⟨S72, .f32⟩
  | .hbm, ⟨50, _⟩ => ⟨S88, .f32⟩
  | .hbm, ⟨51, _⟩ => ⟨S1x88, .f32⟩
  | .hbm, ⟨52, _⟩ => ⟨S1x128, .f32⟩
  | .hbm, ⟨53, _⟩ => ⟨S_, .f32⟩
  | .hbm, ⟨54, _⟩ => ⟨S7x128, .f32⟩
  | .hbm, ⟨55, _⟩ => ⟨S1x128, .f32⟩
  | .hbm, ⟨56, _⟩ => ⟨S_, .f32⟩
  | .hbm, ⟨57, _⟩ => ⟨S7x128, .f32⟩
  | .hbm, ⟨58, _⟩ => ⟨S128x128, .f32⟩
  | .hbm, ⟨59, _⟩ => ⟨S128x128, .f32⟩
  | .hbm, ⟨60, _⟩ => ⟨S1x128, .f32⟩
  | .hbm, ⟨61, _⟩ => ⟨S_, .f32⟩
  | .hbm, ⟨62, _⟩ => ⟨S7x128, .f32⟩
  | .hbm, ⟨63, _⟩ => ⟨S1x128, .f32⟩
  | .hbm, ⟨64, _⟩ => ⟨S_, .f32⟩
  | .hbm, ⟨65, _⟩ => ⟨S7x128, .f32⟩
  | .hbm, ⟨66, _⟩ => ⟨S6x128, .f32⟩
  | .hbm, ⟨67, _⟩ => ⟨S_, .f32⟩
  | .hbm, ⟨68, _⟩ => ⟨S2x128, .f32⟩
  | .hbm, ⟨69, _⟩ => ⟨S1x6, .f32⟩
  | .hbm, ⟨70, _⟩ => ⟨S_, .i32⟩
  | .hbm, ⟨71, _⟩ => ⟨S_, .f32⟩
  | .hbm, ⟨72, _⟩ => ⟨S1x128, .f32⟩
  | .hbm, ⟨73, _⟩ => ⟨S_, .f32⟩
  | .hbm, ⟨74, _⟩ => ⟨S7x128, .f32⟩
  | .hbm, ⟨75, _⟩ => ⟨S_, .i32⟩
  | .hbm, ⟨76, _⟩ => ⟨S_, .f32⟩
  | .hbm, ⟨77, _⟩ => ⟨S1x128, .f32⟩
  | .hbm, ⟨78, _⟩ => ⟨S_, .f32⟩
  | .hbm, ⟨79, _⟩ => ⟨S7x128, .f32⟩
  | .hbm, ⟨80, _⟩ => ⟨S_, .i32⟩
  | .hbm, ⟨81, _⟩ => ⟨S_, .f32⟩
  | .hbm, ⟨82, _⟩ => ⟨S1x128, .f32⟩
  | .hbm, ⟨83, _⟩ => ⟨S_, .f32⟩
  | .hbm, ⟨84, _⟩ => ⟨S7x128, .f32⟩
  | .hbm, ⟨85, _⟩ => ⟨S_, .i32⟩
  | .hbm, ⟨86, _⟩ => ⟨S_, .f32⟩
  | .hbm, ⟨87, _⟩ => ⟨S1x128, .f32⟩
  | .hbm, ⟨88, _⟩ => ⟨S_, .f32⟩
  | .hbm, ⟨89, _⟩ => ⟨S7x128, .f32⟩
  | .hbm, ⟨90, _⟩ => ⟨S_, .i32⟩
  | .hbm, ⟨91, _⟩ => ⟨S_, .f32⟩
  | .hbm, ⟨92, _⟩ => ⟨S1x128, .f32⟩
  | .hbm, ⟨93, _⟩ => ⟨S_, .f32⟩
  | .hbm, ⟨94, _⟩ => ⟨S7x128, .f32⟩
  | .hbm, ⟨95, _⟩ => ⟨S456x128, .f32⟩
  | .hbm, ⟨96, _⟩ => ⟨S32x128, .f32⟩
  | .hbm, ⟨97, _⟩ => ⟨S488x128, .f32⟩
  | .hbm, ⟨98, _⟩ => ⟨S4x16384, .i32⟩
  | .hbm, ⟨99, _⟩ => ⟨S19x16384, .i32⟩
  | .hbm, ⟨100, _⟩ => ⟨S_, .i32⟩
  | .hbm, ⟨101, _⟩ => ⟨S1x16384, .i32⟩
  | .hbm, ⟨102, _⟩ => ⟨S24x16384, .i32⟩
  | .hbm, ⟨103, _⟩ => ⟨S24x16384, .f32⟩
  | .hbm, ⟨104, _⟩ => ⟨S6x16384, .f32⟩
  | .hbm, ⟨105, _⟩ => ⟨S16384x6, .f32⟩
  | .local _ .vmem, ⟨0, _⟩ => ⟨S24x16384, .f32⟩
  | .local _ .vmem, ⟨1, _⟩ => ⟨S488x128, .f32⟩
  | .local _ .vmem, ⟨2, _⟩ => ⟨S6x16384, .f32⟩
  | _, _ => ⟨S16384x4, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_v15 : Ref sig .tc := ⟨.hbm, 33, rfl⟩
abbrev main_call0_v16 : Ref sig .tc := ⟨.hbm, 34, rfl⟩
abbrev main_call0_v17 : Ref sig .tc := ⟨.hbm, 35, rfl⟩
abbrev main_call0_v18 : Ref sig .tc := ⟨.hbm, 36, rfl⟩
abbrev main_call0_v19 : Ref sig .tc := ⟨.hbm, 37, rfl⟩
abbrev main_call0_v20 : Ref sig .tc := ⟨.hbm, 38, rfl⟩
abbrev main_call0_v21 : Ref sig .tc := ⟨.hbm, 39, rfl⟩
abbrev main_call0_v22 : Ref sig .tc := ⟨.hbm, 40, rfl⟩
abbrev main_call0_v23 : Ref sig .tc := ⟨.hbm, 41, rfl⟩
abbrev main_call0_v24 : Ref sig .tc := ⟨.hbm, 42, rfl⟩
abbrev main_call0_v25 : Ref sig .tc := ⟨.hbm, 43, rfl⟩
abbrev main_call0_v26 : Ref sig .tc := ⟨.hbm, 44, rfl⟩
abbrev main_call0_v27 : Ref sig .tc := ⟨.hbm, 45, rfl⟩
abbrev main_call0_v28 : Ref sig .tc := ⟨.hbm, 46, rfl⟩
abbrev main_call0_v29 : Ref sig .tc := ⟨.hbm, 47, rfl⟩
abbrev main_call0_v30 : Ref sig .tc := ⟨.hbm, 48, rfl⟩
abbrev main_call0_v31 : Ref sig .tc := ⟨.hbm, 49, rfl⟩
abbrev main_call0_v32 : Ref sig .tc := ⟨.hbm, 50, rfl⟩
abbrev main_call0_v33 : Ref sig .tc := ⟨.hbm, 51, rfl⟩
abbrev main_call0_v34 : Ref sig .tc := ⟨.hbm, 52, rfl⟩
abbrev main_call0_cst : Ref sig .tc := ⟨.hbm, 53, rfl⟩
abbrev main_call0_v35 : Ref sig .tc := ⟨.hbm, 54, rfl⟩
abbrev main_call0_v36 : Ref sig .tc := ⟨.hbm, 55, rfl⟩
abbrev main_call0_cst_0 : Ref sig .tc := ⟨.hbm, 56, rfl⟩
abbrev main_call0_v37 : Ref sig .tc := ⟨.hbm, 57, rfl⟩
abbrev main_call0_v38 : Ref sig .tc := ⟨.hbm, 58, rfl⟩
abbrev main_call0_v39 : Ref sig .tc := ⟨.hbm, 59, rfl⟩
abbrev main_call0_v40 : Ref sig .tc := ⟨.hbm, 60, rfl⟩
abbrev main_call0_cst_1 : Ref sig .tc := ⟨.hbm, 61, rfl⟩
abbrev main_call0_v41 : Ref sig .tc := ⟨.hbm, 62, rfl⟩
abbrev main_call0_v42 : Ref sig .tc := ⟨.hbm, 63, rfl⟩
abbrev main_call0_cst_2 : Ref sig .tc := ⟨.hbm, 64, rfl⟩
abbrev main_call0_v43 : Ref sig .tc := ⟨.hbm, 65, rfl⟩
abbrev main_call0_v44 : Ref sig .tc := ⟨.hbm, 66, rfl⟩
abbrev main_call0_cst_3 : Ref sig .tc := ⟨.hbm, 67, rfl⟩
abbrev main_call0_v45 : Ref sig .tc := ⟨.hbm, 68, rfl⟩
abbrev main_call0_v46 : Ref sig .tc := ⟨.hbm, 69, rfl⟩
abbrev main_call0_c : Ref sig .tc := ⟨.hbm, 70, rfl⟩
abbrev main_call0_call0_v0 : Ref sig .tc := ⟨.hbm, 71, rfl⟩
abbrev main_call0_v47 : Ref sig .tc := ⟨.hbm, 72, rfl⟩
abbrev main_call0_cst_4 : Ref sig .tc := ⟨.hbm, 73, rfl⟩
abbrev main_call0_v48 : Ref sig .tc := ⟨.hbm, 74, rfl⟩
abbrev main_call0_c_5 : Ref sig .tc := ⟨.hbm, 75, rfl⟩
abbrev main_call0_call1_v0 : Ref sig .tc := ⟨.hbm, 76, rfl⟩
abbrev main_call0_v49 : Ref sig .tc := ⟨.hbm, 77, rfl⟩
abbrev main_call0_cst_6 : Ref sig .tc := ⟨.hbm, 78, rfl⟩
abbrev main_call0_v50 : Ref sig .tc := ⟨.hbm, 79, rfl⟩
abbrev main_call0_c_7 : Ref sig .tc := ⟨.hbm, 80, rfl⟩
abbrev main_call0_call2_v0 : Ref sig .tc := ⟨.hbm, 81, rfl⟩
abbrev main_call0_v51 : Ref sig .tc := ⟨.hbm, 82, rfl⟩
abbrev main_call0_cst_8 : Ref sig .tc := ⟨.hbm, 83, rfl⟩
abbrev main_call0_v52 : Ref sig .tc := ⟨.hbm, 84, rfl⟩
abbrev main_call0_c_9 : Ref sig .tc := ⟨.hbm, 85, rfl⟩
abbrev main_call0_call3_v0 : Ref sig .tc := ⟨.hbm, 86, rfl⟩
abbrev main_call0_v53 : Ref sig .tc := ⟨.hbm, 87, rfl⟩
abbrev main_call0_cst_10 : Ref sig .tc := ⟨.hbm, 88, rfl⟩
abbrev main_call0_v54 : Ref sig .tc := ⟨.hbm, 89, rfl⟩
abbrev main_call0_c_11 : Ref sig .tc := ⟨.hbm, 90, rfl⟩
abbrev main_call0_call4_v0 : Ref sig .tc := ⟨.hbm, 91, rfl⟩
abbrev main_call0_v55 : Ref sig .tc := ⟨.hbm, 92, rfl⟩
abbrev main_call0_cst_12 : Ref sig .tc := ⟨.hbm, 93, rfl⟩
abbrev main_call0_v56 : Ref sig .tc := ⟨.hbm, 94, rfl⟩
abbrev main_call0_v57 : Ref sig .tc := ⟨.hbm, 95, rfl⟩
abbrev main_call0_v58 : Ref sig .tc := ⟨.hbm, 96, rfl⟩
abbrev main_call0_v59 : Ref sig .tc := ⟨.hbm, 97, rfl⟩
abbrev main_call0_v60 : Ref sig .tc := ⟨.hbm, 98, rfl⟩
abbrev main_call0_v61 : Ref sig .tc := ⟨.hbm, 99, rfl⟩
abbrev main_call0_c_13 : Ref sig .tc := ⟨.hbm, 100, rfl⟩
abbrev main_call0_v62 : Ref sig .tc := ⟨.hbm, 101, rfl⟩
abbrev main_call0_v63 : Ref sig .tc := ⟨.hbm, 102, rfl⟩
abbrev main_call0_v64 : Ref sig .tc := ⟨.hbm, 103, rfl⟩
abbrev main_call0_v65 : Ref sig .tc := ⟨.hbm, 104, rfl⟩
abbrev main_v0 : Ref sig .tc := ⟨.hbm, 105, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S24x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S488x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S16384x4 : Shape := ⟨2, ![16384, 4]⟩
abbrev S16384x19 : Shape := ⟨2, ![16384, 19]⟩
abbrev S6050x16 : Shape := ⟨2, ![6050, 16]⟩
abbrev S2x16 : Shape := ⟨2, ![2, 16]⟩
abbrev S7x16 : Shape := ⟨2, ![7, 16]⟩
abbrev S25x16 : Shape := ⟨2, ![25, 16]⟩
abbrev S4000x16 : Shape := ⟨2, ![4000, 16]⟩
abbrev S18x2x4 : Shape := ⟨3, ![18, 2, 4]⟩
abbrev S64x128 : Shape := ⟨2, ![64, 128]⟩
abbrev S128 : Shape := ⟨1, ![128]⟩
abbrev S128x128 : Shape := ⟨2, ![128, 128]⟩
abbrev S88x128 : Shape := ⟨2, ![88, 128]⟩
abbrev S128x6 : Shape := ⟨2, ![128, 6]⟩
abbrev S6 : Shape := ⟨1, ![6]⟩
abbrev S16384x1 : Shape := ⟨2, ![16384, 1]⟩
abbrev S16384 : Shape := ⟨1, ![16384]⟩
abbrev S_ : Shape := ⟨0, ![]⟩
abbrev S1 : Shape := ⟨1, ![1]⟩
abbrev S1x1 : Shape := ⟨2, ![1, 1]⟩
abbrev S16384x16 : Shape := ⟨2, ![16384, 16]⟩
abbrev S16384x64 : Shape := ⟨2, ![16384, 64]⟩
abbrev S16384x128 : Shape := ⟨2, ![16384, 128]⟩
abbrev S1x128 : Shape := ⟨2, ![1, 128]⟩
abbrev S16384x18 : Shape := ⟨2, ![16384, 18]⟩
abbrev S18x16384 : Shape := ⟨2, ![18, 16384]⟩
abbrev S18x16384x1 : Shape := ⟨3, ![18, 16384, 1]⟩
abbrev S1x1x1 : Shape := ⟨3, ![1, 1, 1]⟩
abbrev S18x16384x4 : Shape := ⟨3, ![18, 16384, 4]⟩
abbrev S16384x18x4 : Shape := ⟨3, ![16384, 18, 4]⟩
abbrev S16384x72 : Shape := ⟨2, ![16384, 72]⟩
abbrev S16384x88 : Shape := ⟨2, ![16384, 88]⟩
abbrev S16384x6 : Shape := ⟨2, ![16384, 6]⟩
abbrev S1x6 : Shape := ⟨2, ![1, 6]⟩

abbrev nBuf : Space → Nat
  | .hbm => 199
  | .vmem => 0
  | .smem => 0
  | _ => 0

abbrev hbmTy0_0 (i : Nat) : BufTy := match i % 128 with
  | 0 => ⟨S16384x4, .i32⟩
  | 1 => ⟨S16384x19, .i32⟩
  | 2 => ⟨S6050x16, .f32⟩
  | 3 => ⟨S2x16, .f32⟩
  | 4 => ⟨S7x16, .f32⟩
  | 5 => ⟨S25x16, .f32⟩
  | 6 => ⟨S4000x16, .f32⟩
  | 7 => ⟨S18x2x4, .f32⟩
  | 8 => ⟨S64x128, .f32⟩
  | 9 => ⟨S128, .f32⟩
  | 10 => ⟨S128x128, .f32⟩
  | 11 => ⟨S128, .f32⟩
  | 12 => ⟨S88x128, .f32⟩
  | 13 => ⟨S128, .f32⟩
  | 14 => ⟨S128x128, .f32⟩
  | 15 => ⟨S128, .f32⟩
  | 16 => ⟨S128x6, .f32⟩
  | 17 => ⟨S6, .f32⟩
  | 18 => ⟨S16384x1, .i32⟩
  | 19 => ⟨S16384, .i32⟩
  | 20 => ⟨S_, .i32⟩
  | 21 => ⟨S16384, .i32⟩
  | 22 => ⟨S16384, .i1⟩
  | 23 => ⟨S_, .i32⟩
  | 24 => ⟨S16384, .i32⟩
  | 25 => ⟨S16384, .i32⟩
  | 26 => ⟨S16384, .i32⟩
  | 27 => ⟨S16384x1, .i32⟩
  | 28 => ⟨S1, .i32⟩
  | 29 => ⟨S_, .i32⟩
  | 30 => ⟨S16384x1, .i32⟩
  | 31 => ⟨S16384x1, .i1⟩
  | 32 => ⟨S1x1, .i32⟩
  | 33 => ⟨S16384x1, .i32⟩
  | 34 => ⟨S16384x1, .i1⟩
  | 35 => ⟨S16384x1, .i1⟩
  | 36 => ⟨S_, .i1⟩
  | 37 => ⟨S16384, .i1⟩
  | 38 => ⟨S16384x16, .f32⟩
  | 39 => ⟨S16384x16, .i1⟩
  | 40 => ⟨S_, .f32⟩
  | 41 => ⟨S16384x16, .f32⟩
  | 42 => ⟨S16384x16, .f32⟩
  | 43 => ⟨S16384x1, .i32⟩
  | 44 => ⟨S16384, .i32⟩
  | 45 => ⟨S_, .i32⟩
  | 46 => ⟨S16384, .i32⟩
  | 47 => ⟨S16384, .i1⟩
  | 48 => ⟨S_, .i32⟩
  | 49 => ⟨S16384, .i32⟩
  | 50 => ⟨S16384, .i32⟩
  | 51 => ⟨S16384, .i32⟩
  | 52 => ⟨S16384x1, .i32⟩
  | 53 => ⟨S1, .i32⟩
  | 54 => ⟨S_, .i32⟩
  | 55 => ⟨S16384x1, .i32⟩
  | 56 => ⟨S16384x1, .i1⟩
  | 57 => ⟨S1x1, .i32⟩
  | 58 => ⟨S16384x1, .i32⟩
  | 59 => ⟨S16384x1, .i1⟩
  | 60 => ⟨S16384x1, .i1⟩
  | 61 => ⟨S_, .i1⟩
  | 62 => ⟨S16384, .i1⟩
  | 63 => ⟨S16384x16, .f32⟩
  | 64 => ⟨S16384x16, .i1⟩
  | 65 => ⟨S_, .f32⟩
  | 66 => ⟨S16384x16, .f32⟩
  | 67 => ⟨S16384x16, .f32⟩
  | 68 => ⟨S16384x1, .i32⟩
  | 69 => ⟨S16384, .i32⟩
  | 70 => ⟨S_, .i32⟩
  | 71 => ⟨S16384, .i32⟩
  | 72 => ⟨S16384, .i1⟩
  | 73 => ⟨S_, .i32⟩
  | 74 => ⟨S16384, .i32⟩
  | 75 => ⟨S16384, .i32⟩
  | 76 => ⟨S16384, .i32⟩
  | 77 => ⟨S16384x1, .i32⟩
  | 78 => ⟨S1, .i32⟩
  | 79 => ⟨S_, .i32⟩
  | 80 => ⟨S16384x1, .i32⟩
  | 81 => ⟨S16384x1, .i1⟩
  | 82 => ⟨S1x1, .i32⟩
  | 83 => ⟨S16384x1, .i32⟩
  | 84 => ⟨S16384x1, .i1⟩
  | 85 => ⟨S16384x1, .i1⟩
  | 86 => ⟨S_, .i1⟩
  | 87 => ⟨S16384, .i1⟩
  | 88 => ⟨S16384x16, .f32⟩
  | 89 => ⟨S16384x16, .i1⟩
  | 90 => ⟨S_, .f32⟩
  | 91 => ⟨S16384x16, .f32⟩
  | 92 => ⟨S16384x16, .f32⟩
  | 93 => ⟨S16384x1, .i32⟩
  | 94 => ⟨S16384, .i32⟩
  | 95 => ⟨S_, .i32⟩
  | 96 => ⟨S16384, .i32⟩
  | 97 => ⟨S16384, .i1⟩
  | 98 => ⟨S_, .i32⟩
  | 99 => ⟨S16384, .i32⟩
  | 100 => ⟨S16384, .i32⟩
  | 101 => ⟨S16384, .i32⟩
  | 102 => ⟨S16384x1, .i32⟩
  | 103 => ⟨S1, .i32⟩
  | 104 => ⟨S_, .i32⟩
  | 105 => ⟨S16384x1, .i32⟩
  | 106 => ⟨S16384x1, .i1⟩
  | 107 => ⟨S1x1, .i32⟩
  | 108 => ⟨S16384x1, .i32⟩
  | 109 => ⟨S16384x1, .i1⟩
  | 110 => ⟨S16384x1, .i1⟩
  | 111 => ⟨S_, .i1⟩
  | 112 => ⟨S16384, .i1⟩
  | 113 => ⟨S16384x16, .f32⟩
  | 114 => ⟨S16384x16, .i1⟩
  | 115 => ⟨S_, .f32⟩
  | 116 => ⟨S16384x16, .f32⟩
  | 117 => ⟨S16384x16, .f32⟩
  | 118 => ⟨S16384x64, .f32⟩
  | 119 => ⟨S16384x128, .f32⟩
  | 120 => ⟨S1x128, .f32⟩
  | 121 => ⟨S16384x128, .f32⟩
  | 122 => ⟨S16384x128, .f32⟩
  | 123 => ⟨S_, .f32⟩
  | 124 => ⟨S16384x128, .f32⟩
  | 125 => ⟨S16384x128, .f32⟩
  | 126 => ⟨S16384x128, .f32⟩
  | 127 => ⟨S1x128, .f32⟩
  | _ => ⟨S16384x4, .i32⟩

abbrev hbmTy0_1 (i : Nat) : BufTy := match i % 128 with
  | 0 => ⟨S16384x128, .f32⟩
  | 1 => ⟨S16384x128, .f32⟩
  | 2 => ⟨S16384x18, .i32⟩
  | 3 => ⟨S_, .i32⟩
  | 4 => ⟨S16384x18, .i32⟩
  | 5 => ⟨S16384x18, .i1⟩
  | 6 => ⟨S_, .i32⟩
  | 7 => ⟨S16384x18, .i32⟩
  | 8 => ⟨S16384x18, .i32⟩
  | 9 => ⟨S16384x18, .i32⟩
  | 10 => ⟨S18x16384, .i32⟩
  | 11 => ⟨S18x16384x1, .i32⟩
  | 12 => ⟨S1, .i32⟩
  | 13 => ⟨S_, .i32⟩
  | 14 => ⟨S18x16384x1, .i32⟩
  | 15 => ⟨S18x16384x1, .i1⟩
  | 16 => ⟨S1x1x1, .i32⟩
  | 17 => ⟨S18x16384x1, .i32⟩
  | 18 => ⟨S18x16384x1, .i1⟩
  | 19 => ⟨S18x16384x1, .i1⟩
  | 20 => ⟨S_, .i1⟩
  | 21 => ⟨S18x16384, .i1⟩
  | 22 => ⟨S18x16384x4, .f32⟩
  | 23 => ⟨S18x16384x4, .i1⟩
  | 24 => ⟨S_, .f32⟩
  | 25 => ⟨S18x16384x4, .f32⟩
  | 26 => ⟨S18x16384x4, .f32⟩
  | 27 => ⟨S16384x18x4, .f32⟩
  | 28 => ⟨S16384x1, .i32⟩
  | 29 => ⟨S16384, .i32⟩
  | 30 => ⟨S_, .i32⟩
  | 31 => ⟨S16384, .i32⟩
  | 32 => ⟨S16384, .i1⟩
  | 33 => ⟨S_, .i32⟩
  | 34 => ⟨S16384, .i32⟩
  | 35 => ⟨S16384, .i32⟩
  | 36 => ⟨S16384, .i32⟩
  | 37 => ⟨S16384x1, .i32⟩
  | 38 => ⟨S1, .i32⟩
  | 39 => ⟨S_, .i32⟩
  | 40 => ⟨S16384x1, .i32⟩
  | 41 => ⟨S16384x1, .i1⟩
  | 42 => ⟨S1x1, .i32⟩
  | 43 => ⟨S16384x1, .i32⟩
  | 44 => ⟨S16384x1, .i1⟩
  | 45 => ⟨S16384x1, .i1⟩
  | 46 => ⟨S_, .i1⟩
  | 47 => ⟨S16384, .i1⟩
  | 48 => ⟨S16384x16, .f32⟩
  | 49 => ⟨S16384x16, .i1⟩
  | 50 => ⟨S_, .f32⟩
  | 51 => ⟨S16384x16, .f32⟩
  | 52 => ⟨S16384x16, .f32⟩
  | 53 => ⟨S16384x72, .f32⟩
  | 54 => ⟨S16384x88, .f32⟩
  | 55 => ⟨S16384x128, .f32⟩
  | 56 => ⟨S1x128, .f32⟩
  | 57 => ⟨S16384x128, .f32⟩
  | 58 => ⟨S16384x128, .f32⟩
  | 59 => ⟨S_, .f32⟩
  | 60 => ⟨S16384x128, .f32⟩
  | 61 => ⟨S16384x128, .f32⟩
  | 62 => ⟨S16384x128, .f32⟩
  | 63 => ⟨S1x128, .f32⟩
  | 64 => ⟨S16384x128, .f32⟩
  | 65 => ⟨S16384x128, .f32⟩
  | 66 => ⟨S16384x128, .f32⟩
  | 67 => ⟨S16384x6, .f32⟩
  | 68 => ⟨S1x6, .f32⟩
  | 69 => ⟨S16384x6, .f32⟩
  | 70 => ⟨S16384x6, .f32⟩
  | _ => ⟨S16384x4, .i32⟩

abbrev hbmTy (i : Nat) : BufTy := match i / 128 with
  | 0 => hbmTy0_0 i
  | 1 => hbmTy0_1 i
  | _ => ⟨S16384x4, .i32⟩

abbrev bufTy : (tb : Table) → Fin (tcTables nBuf tb) → BufTy
  | .hbm, ⟨i, _⟩ => hbmTy i
  | _, _ => ⟨S16384x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v5 : Ref sig .tc := ⟨.hbm, 67, rfl⟩
abbrev main_v6 : Ref sig .tc := ⟨.hbm, 68, rfl⟩
abbrev main_v7 : Ref sig .tc := ⟨.hbm, 69, rfl⟩
abbrev main_call2_c : Ref sig .tc := ⟨.hbm, 70, rfl⟩
abbrev main_call2_v0 : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_c_1 : Ref sig .tc := ⟨.hbm, 78, rfl⟩
abbrev main_call2_c_2 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_3 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_call2_cst : Ref sig .tc := ⟨.hbm, 90, rfl⟩
abbrev main_call2_v15 : Ref sig .tc := ⟨.hbm, 91, rfl⟩
abbrev main_v8 : Ref sig .tc := ⟨.hbm, 92, rfl⟩
abbrev main_v9 : Ref sig .tc := ⟨.hbm, 93, rfl⟩
abbrev main_v10 : Ref sig .tc := ⟨.hbm, 94, rfl⟩
abbrev main_call3_c : Ref sig .tc := ⟨.hbm, 95, rfl⟩
abbrev main_call3_v0 : Ref sig .tc := ⟨.hbm, 96, rfl⟩
abbrev main_call3_v1 : Ref sig .tc := ⟨.hbm, 97, rfl⟩
abbrev main_call3_c_0 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_c_1 : Ref sig .tc := ⟨.hbm, 103, rfl⟩
abbrev main_call3_c_2 : Ref sig .tc := ⟨.hbm, 104, rfl⟩
abbrev main_call3_v6 : Ref sig .tc := ⟨.hbm, 105, rfl⟩
abbrev main_call3_v7 : Ref sig .tc := ⟨.hbm, 106, rfl⟩
abbrev main_call3_v8 : Ref sig .tc := ⟨.hbm, 107, rfl⟩
abbrev main_call3_v9 : Ref sig .tc := ⟨.hbm, 108, rfl⟩
abbrev main_call3_v10 : Ref sig .tc := ⟨.hbm, 109, rfl⟩
abbrev main_call3_v11 : Ref sig .tc := ⟨.hbm, 110, rfl⟩
abbrev main_call3_c_3 : Ref sig .tc := ⟨.hbm, 111, rfl⟩
abbrev main_call3_v12 : Ref sig .tc := ⟨.hbm, 112, rfl⟩
abbrev main_call3_v13 : Ref sig .tc := ⟨.hbm, 113, rfl⟩
abbrev main_call3_v14 : Ref sig .tc := ⟨.hbm, 114, rfl⟩
abbrev main_call3_cst : Ref sig .tc := ⟨.hbm, 115, rfl⟩
abbrev main_call3_v15 : Ref sig .tc := ⟨.hbm, 116, rfl⟩
abbrev main_v11 : Ref sig .tc := ⟨.hbm, 117, rfl⟩
abbrev main_v12 : Ref sig .tc := ⟨.hbm, 118, rfl⟩
abbrev main_v13 : Ref sig .tc := ⟨.hbm, 119, rfl⟩
abbrev main_v14 : Ref sig .tc := ⟨.hbm, 120, rfl⟩
abbrev main_v15 : Ref sig .tc := ⟨.hbm, 121, rfl⟩
abbrev main_v16 : Ref sig .tc := ⟨.hbm, 122, rfl⟩
abbrev main_call4_cst : Ref sig .tc := ⟨.hbm, 123, rfl⟩
abbrev main_call4_v0 : Ref sig .tc := ⟨.hbm, 124, rfl⟩
abbrev main_v17 : Ref sig .tc := ⟨.hbm, 125, rfl⟩
abbrev main_v18 : Ref sig .tc := ⟨.hbm, 126, rfl⟩
abbrev main_v19 : Ref sig .tc := ⟨.hbm, 127, rfl⟩
abbrev main_v20 : Ref sig .tc := ⟨.hbm, 128, rfl⟩
abbrev main_v21 : Ref sig .tc := ⟨.hbm, 129, rfl⟩
abbrev main_v22 : Ref sig .tc := ⟨.hbm, 130, rfl⟩
abbrev main_call5_c : Ref sig .tc := ⟨.hbm, 131, rfl⟩
abbrev main_call5_v0 : Ref sig .tc := ⟨.hbm, 132, rfl⟩
abbrev main_call5_v1 : Ref sig .tc := ⟨.hbm, 133, rfl⟩
abbrev main_call5_c_0 : Ref sig .tc := ⟨.hbm, 134, rfl⟩
abbrev main_call5_v2 : Ref sig .tc := ⟨.hbm, 135, rfl⟩
abbrev main_call5_v3 : Ref sig .tc := ⟨.hbm, 136, rfl⟩
abbrev main_call5_v4 : Ref sig .tc := ⟨.hbm, 137, rfl⟩
abbrev main_call5_v5 : Ref sig .tc := ⟨.hbm, 138, rfl⟩
abbrev main_call5_v6 : Ref sig .tc := ⟨.hbm, 139, rfl⟩
abbrev main_call5_c_1 : Ref sig .tc := ⟨.hbm, 140, rfl⟩
abbrev main_call5_c_2 : Ref sig .tc := ⟨.hbm, 141, rfl⟩
abbrev main_call5_v7 : Ref sig .tc := ⟨.hbm, 142, rfl⟩
abbrev main_call5_v8 : Ref sig .tc := ⟨.hbm, 143, rfl⟩
abbrev main_call5_v9 : Ref sig .tc := ⟨.hbm, 144, rfl⟩
abbrev main_call5_v10 : Ref sig .tc := ⟨.hbm, 145, rfl⟩
abbrev main_call5_v11 : Ref sig .tc := ⟨.hbm, 146, rfl⟩
abbrev main_call5_v12 : Ref sig .tc := ⟨.hbm, 147, rfl⟩
abbrev main_call5_c_3 : Ref sig .tc := ⟨.hbm, 148, rfl⟩
abbrev main_call5_v13 : Ref sig .tc := ⟨.hbm, 149, rfl⟩
abbrev main_call5_v14 : Ref sig .tc := ⟨.hbm, 150, rfl⟩
abbrev main_call5_v15 : Ref sig .tc := ⟨.hbm, 151, rfl⟩
abbrev main_call5_cst : Ref sig .tc := ⟨.hbm, 152, rfl⟩
abbrev main_call5_v16 : Ref sig .tc := ⟨.hbm, 153, rfl⟩
abbrev main_v23 : Ref sig .tc := ⟨.hbm, 154, rfl⟩
abbrev main_v24 : Ref sig .tc := ⟨.hbm, 155, rfl⟩
abbrev main_v25 : Ref sig .tc := ⟨.hbm, 156, rfl⟩
abbrev main_v26 : Ref sig .tc := ⟨.hbm, 157, rfl⟩
abbrev main_call6_c : Ref sig .tc := ⟨.hbm, 158, rfl⟩
abbrev main_call6_v0 : Ref sig .tc := ⟨.hbm, 159, rfl⟩
abbrev main_call6_v1 : Ref sig .tc := ⟨.hbm, 160, rfl⟩
abbrev main_call6_c_0 : Ref sig .tc := ⟨.hbm, 161, rfl⟩
abbrev main_call6_v2 : Ref sig .tc := ⟨.hbm, 162, rfl⟩
abbrev main_call6_v3 : Ref sig .tc := ⟨.hbm, 163, rfl⟩
abbrev main_call6_v4 : Ref sig .tc := ⟨.hbm, 164, rfl⟩
abbrev main_call6_v5 : Ref sig .tc := ⟨.hbm, 165, rfl⟩
abbrev main_call6_c_1 : Ref sig .tc := ⟨.hbm, 166, rfl⟩
abbrev main_call6_c_2 : Ref sig .tc := ⟨.hbm, 167, rfl⟩
abbrev main_call6_v6 : Ref sig .tc := ⟨.hbm, 168, rfl⟩
abbrev main_call6_v7 : Ref sig .tc := ⟨.hbm, 169, rfl⟩
abbrev main_call6_v8 : Ref sig .tc := ⟨.hbm, 170, rfl⟩
abbrev main_call6_v9 : Ref sig .tc := ⟨.hbm, 171, rfl⟩
abbrev main_call6_v10 : Ref sig .tc := ⟨.hbm, 172, rfl⟩
abbrev main_call6_v11 : Ref sig .tc := ⟨.hbm, 173, rfl⟩
abbrev main_call6_c_3 : Ref sig .tc := ⟨.hbm, 174, rfl⟩
abbrev main_call6_v12 : Ref sig .tc := ⟨.hbm, 175, rfl⟩
abbrev main_call6_v13 : Ref sig .tc := ⟨.hbm, 176, rfl⟩
abbrev main_call6_v14 : Ref sig .tc := ⟨.hbm, 177, rfl⟩
abbrev main_call6_cst : Ref sig .tc := ⟨.hbm, 178, rfl⟩
abbrev main_call6_v15 : Ref sig .tc := ⟨.hbm, 179, rfl⟩
abbrev main_v27 : Ref sig .tc := ⟨.hbm, 180, rfl⟩
abbrev main_v28 : Ref sig .tc := ⟨.hbm, 181, rfl⟩
abbrev main_v29 : Ref sig .tc := ⟨.hbm, 182, rfl⟩
abbrev main_v30 : Ref sig .tc := ⟨.hbm, 183, rfl⟩
abbrev main_v31 : Ref sig .tc := ⟨.hbm, 184, rfl⟩
abbrev main_v32 : Ref sig .tc := ⟨.hbm, 185, rfl⟩
abbrev main_v33 : Ref sig .tc := ⟨.hbm, 186, rfl⟩
abbrev main_call7_cst : Ref sig .tc := ⟨.hbm, 187, rfl⟩
abbrev main_call7_v0 : Ref sig .tc := ⟨.hbm, 188, rfl⟩
abbrev main_v34 : Ref sig .tc := ⟨.hbm, 189, rfl⟩
abbrev main_v35 : Ref sig .tc := ⟨.hbm, 190, rfl⟩
abbrev main_v36 : Ref sig .tc := ⟨.hbm, 191, rfl⟩
abbrev main_v37 : Ref sig .tc := ⟨.hbm, 192, rfl⟩
abbrev main_v38 : Ref sig .tc := ⟨.hbm, 193, rfl⟩
abbrev main_v39 : Ref sig .tc := ⟨.hbm, 194, rfl⟩
abbrev main_v40 : Ref sig .tc := ⟨.hbm, 195, rfl⟩
abbrev main_v41 : Ref sig .tc := ⟨.hbm, 196, rfl⟩
abbrev main_v42 : Ref sig .tc := ⟨.hbm, 197, rfl⟩
abbrev main_v43 : Ref sig .tc := ⟨.hbm, 198, rfl⟩

abbrev nD : Nat := 1
abbrev τ : Topo := Topo.v7x

variable {F : FTy → Type} [FloatOps F]
-- ==== Proof.KernelIdealLaunch.lean ====
/- The launch of the program: the host lines that pack the weights and the input, the one pipelined region, and the
   transpose after it. The body is read off its printed skeleton, and every argument array is shown to end as it began. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.StableHlo.RunRead
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines -/

/-- What core `c` holds when the region starts. -/
abbrev entry (c : Dev nD) : Valuation τ sig (Elt F) := StableHlo.after (List.flatten [hostOps0]) (fun b => m (c, b))

/-- The same at one of the TensorCore's references. -/
abbrev found (c : Dev nD) (b : Ref sig .tc) : Buf (Elt F) ((c : Thread nD τ).loc b) := entry m c (Proc.devRef .tc b)

/-- The references the host lines before the region write, in order. -/
def written : List (Ref sig .tc) :=
  [main_call0_v0, main_call0_v1, main_call0_v2, main_call0_v3, main_call0_v4, main_call0_v5, main_call0_v6,
   main_call0_v7, main_call0_v8, main_call0_v9, main_call0_v10, main_call0_v11, main_call0_v12,
   main_call0_v13, main_call0_v14, main_call0_v15, main_call0_v16, main_call0_v17, main_call0_v18,
   main_call0_v19, main_call0_v20, main_call0_v21, main_call0_v22, main_call0_v23, main_call0_v24,
   main_call0_v25, main_call0_v26, main_call0_v27, main_call0_v28, main_call0_v29, main_call0_v30,
   main_call0_v31, main_call0_v32, main_call0_v33, main_call0_v34, main_call0_cst, main_call0_v35,
   main_call0_v36, main_call0_cst_0, main_call0_v37, main_call0_v38, main_call0_v39, main_call0_v40,
   main_call0_cst_1, main_call0_v41, main_call0_v42, main_call0_cst_2, main_call0_v43, main_call0_v44,
   main_call0_cst_3, main_call0_v45, main_call0_v46, main_call0_c, main_call0_call0_v0, main_call0_v47,
   main_call0_cst_4, main_call0_v48, main_call0_c_5, main_call0_call1_v0, main_call0_v49, main_call0_cst_6,
   main_call0_v50, main_call0_c_7, main_call0_call2_v0, main_call0_v51, main_call0_cst_8, main_call0_v52,
   main_call0_c_9, main_call0_call3_v0, main_call0_v53, main_call0_cst_10, main_call0_v54, main_call0_c_11,
   main_call0_call4_v0, main_call0_v55, main_call0_cst_12, main_call0_v56, main_call0_v57, main_call0_v58,
   main_call0_v59, main_call0_v60, main_call0_v61, main_call0_c_13, main_call0_v62, main_call0_v63,
   main_call0_v64]

/-- Each line before the region writes its own reference of the list. -/
theorem writes_eq : (hostOps0 : List (HloOp τ sig (Elt F))).map HloOp.writes
    = written.map fun r => {Proc.devRef (τ := τ) .tc r} := rfl

/-- The lines before the region allocate nothing. -/
theorem before_fresh : (hostOps0 : List (HloOp τ sig (Elt F))).Forall fun op => op.fresh = ∅ :=
  StableHlo.forall_fresh_of_map rfl

/-- The line after the region allocates nothing. -/
theorem after_fresh : (hostOps1 : List (HloOp τ sig (Elt F))).Forall fun op => op.fresh = ∅ :=
  StableHlo.forall_fresh_of_map rfl

/-- A reference outside the list is found by the region as launched. -/
theorem found_of_not_written (c : Dev nD) {b : Ref sig .tc} (hb : b ∉ written) :
    found m c b = m ((c : Thread nD τ).loc b) := by
  unfold found entry
  rw [List.flatten_singleton]
  exact StableHlo.after_unwritten written writes_eq hb _

set_option maxHeartbeats 800000 in
/-- The program is its host lines, the region, and the line after it. -/
theorem around (𝒱₀ : Variants) :
    Pipeline.HMainK (Ix := Unit) (Name := ℕ) (U := UR sig nD τ) (Lvl := ℕ) cfgs 0 defs₀ 𝒱₀ m (main (F := F)) (found m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact before_fresh) main_chain

/-- The line after the region touches unscoped references only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rw [List.mem_singleton] at hops
  subst hops
  exact Pipeline.sub_ucRefs op ((List.forall_iff_forall_mem.mp hostOps1_sub) op hop)

/-- It allocates nothing. -/
theorem tail_fresh : ∀ ops ∈ ([hostOps1] : List (List (HloOp τ sig (Elt F)))), ∀ op ∈ ops, op.fresh = ∅ := by
  intro ops hops op hop
  rw [List.mem_singleton] at hops
  subst hops
  exact (List.forall_iff_forall_mem.mp after_fresh) op hop

/-- It writes the result alone, which is no window's array. -/
theorem tail_keeps : ∀ ops ∈ ([hostOps1] : List (List (HloOp τ sig (Elt F)))), ∀ op ∈ ops,
    ∀ w, Proc.devRef .tc (Pipeline.arrRef spec0 w) ∉ op.writes := by
  intro ops hops op hop w
  rw [List.mem_singleton] at hops
  subst hops
  rw [List.mem_singleton] at hop
  subst hop
  rw [StableHlo.unary_writes, Finset.mem_singleton]
  exact StableHlo.devRef_ne_of_ne ((by decide : ∀ w, Pipeline.arrRef spec0 w ≠ main_v0) w)

/-- A reference that no host line writes and no window stages ends as launched. -/
theorem tail_of_not_written (dats : (p : Fin _) → (c : Dev nD) → Dat τ (Elt F) Unit ℕ (UR sig nD τ) ℕ (cfgs p) c)
    (c : Dev nD) {b : Ref sig .tc} (hb : b ∉ written) (hr : b ∉ [main_v0])
    (hw : ∀ w, Pipeline.arrRef spec0 w ≠ b) :
    Pipeline.afterTail₀ cfgs dats 0 (entry m) [hostOps1] c b = m ((c : Thread nD τ).loc b) := by
  unfold Pipeline.afterTail₀
  rw [List.flatten_singleton, StableHlo.after_unwritten [main_v0] rfl hr,
    Pipeline.withArrays_of_ne _ c (entry m c) _ b hw]
  exact found_of_not_written m c hb

/-! ## The windows' blocks -/

/-- Window `w`'s block at point `t`, read off its array as the region finds it. -/
def block (c : Dev nD) (w : Fin cfg0.W) (t : Fin cfg0.N) :
    ((cfg0.win w).xblock (cfg0.grid.coords t)).Idx → Elt F (cfg0.win w).elt :=
  ((cfg0.win w).blk t).view.read (Elt F) (found m c (Pipeline.arrRef spec0 w))

/-- The input's buffer holds the input's block before the body. -/
theorem staged0 {c : Dev nD} (dat : Dat τ (Elt F) Unit ℕ (UR sig nD τ) ℕ cfg0 c)
    (hA : dat.A 0 = found m c (Pipeline.arrRef spec0 0))
    (hafter : ∀ t, dat.after 0 t = block m c 0 t) (t : Fin cfg0.N) (d) : dat.before 0 t d = block m c 0 t :=
  (dat.before_in_eq_fetched 0 rfl (fun _ => rfl) (fun _ _ _ => rfl)
      (fun t => by rw [hafter]; unfold Dat.blockOf block; rw [hA]; try rfl) t d).trans
    (by unfold Dat.fetched Dat.blockOf block; rw [hA]; try rfl)

/-- The weights' buffer holds the weights' block before the body. -/
theorem staged1 {c : Dev nD} (dat : Dat τ (Elt F) Unit ℕ (UR sig nD τ) ℕ cfg0 c)
    (hA : dat.A 1 = found m c (Pipeline.arrRef spec0 1))
    (hafter : ∀ t, dat.after 1 t = block m c 1 t) (t : Fin cfg0.N) (d) : dat.before 1 t d = block m c 1 t :=
  (dat.before_in_eq_fetched 1 rfl (fun _ => rfl) (fun _ _ _ => rfl)
      (fun t => by rw [hafter]; unfold Dat.blockOf block; rw [hA]; try rfl) t d).trans
    (by unfold Dat.fetched Dat.blockOf block; rw [hA]; try rfl)

/-! ## What the body computes -/

/-! Where each weight lies in the packed array. -/

/-- Where the body finds the first user layer. -/
abbrev at_uW1 : Rect S488x128 := Rect.unit (s := S488x128) ![0, 0] S64x128.size inb_S488x128_S64x128_0_0
/-- Where the body finds the first movie layer. -/
abbrev at_mW1 : Rect S488x128 := Rect.unit (s := S488x128) ![64, 0] S88x128.size inb_S488x128_S88x128_64_0
/-- Where the body finds the first user bias. -/
abbrev at_ub1 : Rect S488x128 := Rect.unit (s := S488x128) ![152, 0] S1x128.size inb_S488x128_S1x128_152_0
/-- Where the body finds the first movie bias. -/
abbrev at_mb1 : Rect S488x128 := Rect.unit (s := S488x128) ![160, 0] S1x128.size inb_S488x128_S1x128_160_0
/-- Where the body finds the second user layer. -/
abbrev at_uW2 : Rect S488x128 := Rect.unit (s := S488x128) ![168, 0] S128x128.size inb_S488x128_S128x128_168_0
/-- Where the body finds the second movie layer. -/
abbrev at_mW2 : Rect S488x128 := Rect.unit (s := S488x128) ![296, 0] S128x128.size inb_S488x128_S128x128_296_0
/-- Where the body finds the second user bias. -/
abbrev at_ub2 : Rect S488x128 := Rect.unit (s := S488x128) ![424, 0] S1x128.size inb_S488x128_S1x128_424_0
/-- Where the body finds the second movie bias. -/
abbrev at_mb2 : Rect S488x128 := Rect.unit (s := S488x128) ![432, 0] S1x128.size inb_S488x128_S1x128_432_0
/-- Where the body finds the last layer. -/
abbrev at_pW : Rect S488x128 := Rect.unit (s := S488x128) ![440, 0] S6x128.size inb_S488x128_S6x128_440_0
/-- Where the body finds the last bias. -/
abbrev at_pb : Rect S488x128 := Rect.unit (s := S488x128) ![448, 0] S1x6.size inb_S488x128_S1x6_448_0
/-- Where the body finds the user features of all-zero indices. -/
abbrev at_user0 : Rect S488x128 := Rect.unit (s := S488x128) ![456, 0] S1x64.size inb_S488x128_S1x64_456_0
/-- Where the body finds the user features of all-one indices. -/
abbrev at_user1 : Rect S488x128 := Rect.unit (s := S488x128) ![464, 0] S1x64.size inb_S488x128_S1x64_464_0
/-- Where the body finds the movie features of all-zero indices. -/
abbrev at_movie0 : Rect S488x128 := Rect.unit (s := S488x128) ![472, 0] S1x88.size inb_S488x128_S1x88_472_0
/-- Where the body finds the movie features of all-one indices. -/
abbrev at_movie1 : Rect S488x128 := Rect.unit (s := S488x128) ![480, 0] S1x88.size inb_S488x128_S1x88_480_0
/-- Where the body finds the packed input. -/
abbrev at_input : Rect S24x16384 := Rect.unit (s := S24x16384) ![0, 0] S24x16384.size inb_S24x16384_S24x16384_0_0
/-- Where the body writes the output. -/
abbrev at_output : Rect S6x16384 := Rect.unit (s := S6x16384) ![0, 0] S6x16384.size inb_S6x16384_S6x16384_0_0

/-- The array the body stores, from the input `x` and the packed weights `w`. -/
def stored (x : Vec F S24x16384 .f32) (w : Vec F S488x128 .f32) : Vec F S6x16384 .f32 :=
  k0_pay29 (k0_pay5 (View.ld w at_uW2)) (k0_pay6 (View.ld w at_mW2)) (k0_pay9 (View.ld w at_pW))
    (k0_pay22 (k0_pay2 (View.ld w at_mW1)) (k0_pay13 (View.ld w at_movie0)) (k0_pay14 (View.ld w at_movie1))
      (iota .tc S19x88 32 [0] iota_S19x88_d0_w32) k0_pay17 k0_pay18 4#32 k0_pay19 k0_pay20 k0_pay21)
    (k0_pay23 (k0_pay2 (View.ld w at_mW1)) (k0_pay4 (View.ld w at_mb1)) (k0_pay13 (View.ld w at_movie0)))
    (k0_pay25 (k0_pay7 (View.ld w at_ub2))) (k0_pay26 (k0_pay8 (View.ld w at_mb2)))
    (k0_pay27 (k0_pay10 (View.ld w at_pb)))
    (k0_pay28
      (k0_pay15 (k0_pay1 (View.ld w at_uW1)) (k0_pay11 (View.ld w at_user0)) (k0_pay12 (View.ld w at_user1))
        (iota .tc S4x64 32 [1] iota_S4x64_d1_w32) (iota .tc S4x64 32 [0] iota_S4x64_d0_w32) 16#32)
      (k0_pay16 (k0_pay1 (View.ld w at_uW1)) (k0_pay3 (View.ld w at_ub1)) (k0_pay11 (View.ld w at_user0))))
    (View.ld x at_input)

/-- The output's buffer after the body. -/
def left (x : Vec F S24x16384 .f32) (w : Vec F S488x128 .f32) : Vec F S6x16384 .f32 :=
  View.canon [⟨at_output, stored x w⟩]

/-- The one store covers the output's buffer. -/
theorem left_covers (p : Vec F S6x16384 .f32) (y : S6x16384.Idx) :
    ∃ pc ∈ ([⟨at_output, p⟩] : List (View.Piece (Elt F) S6x16384 .f32)), y ∈ pc.1.set :=
  View.cover_of_tiled [⟨at_output, p⟩] S6x16384.size (by rfl) y

set_option maxHeartbeats 1000000 in
/-- The body, run on buffers holding `x` and `w`, keeps both and leaves `left x w` in the output's. -/
theorem body_runs (c : Dev nD) (E : Set ℕ) (i : grid0.Coords)
    (arg1 : Memref sig .tc .vmem S24x16384 .f32) (harg1 : arg1.IsWhole)
    (arg2 : Memref sig .tc .vmem S488x128 .f32) (harg2 : arg2.IsWhole)
    (arg3 : Memref sig .tc .vmem S6x16384 .f32) (harg3 : arg3.IsWhole)
    (x : Vec F S24x16384 .f32) (w : Vec F S488x128 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (left x w)) -∗ K ⟨⟩))
      ⊢ wp frame (wpE (defs₀ (F := F)) Variants.none c none) E
          (cc0__fused_kernel i arg1 harg1 arg2 harg2 arg3 harg3) K := by
  simp only [cc0__fused_kernel_eq_skeleton]
  unfold cc0__fused_kernel_skel
  simp only [k0_part1_eq_skeleton, k0_part2_eq_skeleton, k0_part3_eq_skeleton, k0_part4_eq_skeleton]
  unfold owns
  iintro ⟨⟨%fx, %hx, Hx⟩, ⟨%fw, %hw, Hw⟩, ⟨%d, %fo, -, Ho⟩, Hk⟩
  subst hx hw
  sl_exec
  sl_step
  iapply Hk
  isplitl [Hx]
  · iexists fx; isplitr; · ipureintro; rfl
    iexact Hx
  isplitl [Hw]
  · iexists fw; isplitr; · ipureintro; rfl
    iexact Hw
  iexists _; isplitr
  swap; · iexact Ho
  ipureintro
  exact (View.read_writes_eq_canon _ _ _ (left_covers _)).trans rfl

/-! ## The region -/

/-- The region's data on core `c`: the arrays as found, the inputs' buffers keeping their blocks, the output's left at
    what the body computes from them. -/
def dats (_ : Fin 1) (c : Dev nD) : Dat τ (Elt F) Unit ℕ (UR sig nD τ) ℕ cfg0 c where
  A w := found m c (Pipeline.arrRef spec0 w)
  after w t := match w with
    | ⟨0, _⟩ => block m c 0 t
    | ⟨1, _⟩ => block m c 1 t
    | ⟨2, _⟩ => left (block m c 0 t) (block m c 1 t)
  Φ _ := Pipeline.ΦA spec0 c
  q _ := fullShare
  owed _ := 0

/-- The arrays of the data are the arrays as found. -/
theorem dats_A (c : Dev nD) (w : Fin cfg0.W) : (dats m 0 c).A w = found m c (Pipeline.arrRef spec0 w) := by
  dsimp only [dats]

/-- The input's buffer is kept. -/
theorem after0 (c : Dev nD) (t : Fin cfg0.N) : (dats m 0 c).after 0 t = block m c 0 t := by dsimp only [dats]

/-- The weights' buffer is kept. -/
theorem after1 (c : Dev nD) (t : Fin cfg0.N) : (dats m 0 c).after 1 t = block m c 1 t := by dsimp only [dats]

/-- The output's buffer ends at the body's result. -/
theorem after2 (c : Dev nD) (t : Fin cfg0.N) : (dats m 0 c).after 2 t = left (block m c 0 t) (block m c 1 t) := by
  dsimp only [dats]

/-- The input's buffer holds its block when the body starts. -/
theorem before0 (c : Dev nD) (t : Fin cfg0.N) (d) : (dats m 0 c).before 0 t d = block m c 0 t :=
  staged0 m (dats m 0 c) (dats_A m c 0) (after0 m c) t d

/-- The weights' buffer holds its block when the body starts. -/
theorem before1 (c : Dev nD) (t : Fin cfg0.N) (d) : (dats m 0 c).before 1 t d = block m c 1 t :=
  staged1 m (dats m 0 c) (dats_A m c 1) (after1 m c) t d

/-- What the body starts from at point `t`. -/
def startsFrom (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What the body ends in at point `t`. -/
def endsIn (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body takes the one to the other. -/
theorem body_at (c : Dev nD) (t : Fin cfg0.N) :
    startsFrom m c t ⊢ wp frame (wpE (defs₀ (F := F)) Variants.none c none) Set.univ (bodyAt0 t)
      (fun _ => endsIn m c t) := by
  unfold startsFrom endsIn bodyAt0
  simp only [before0, before1]
  rw [show (dats m 0 c).Φ t.succ = (dats m 0 c).Φ t.castSucc from rfl,
    show (dats m 0 c).owesAt () t.succ = (dats m 0 c).owesAt () t.castSucc from rfl, after0, after1, after2]
  iintro ⟨HΦ, Ho, ⟨%d0, H0⟩, ⟨%d1, H1⟩, ⟨%d2, H2⟩⟩
  iapply (body_runs c Set.univ (grid0.coords t) _ _ _ _ _ _ (block m c 0 t) (block m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body called at point `t` is the body on that point's buffers. -/
theorem row_eq (t : Fin cfg0.N) :
    defs₀ (F := F) .tc cfg0.body (cfg0.bodyArgs t (cfg0.slots t)) = bodyAt0 t := by
  unfold defs₀
  rw [Defs.onTc_tc]

/-- The body meets the region's demand at every point. -/
theorem body_ok (c : Dev nD) :
    BodyObligation (dats (F := F) m 0 c) (defs₀ (F := F)) Variants.none () Set.univ := fun t => by
  rw [bigSep_W0, bigSep_W0, row_eq]
  exact triple_restated (body_at m c t) rfl .rfl fun _ => .rfl

/-! ## The run -/

/-- Every final state has the region's arrays at what the data compute, the other buffers as the last host line leaves
    them, and every counter at zero. -/
abbrev Ends (r : PUnit × MemSt nD τ sig (Elt F)) : Prop :=
  Pipeline.FramePost cfgs (dats m) 0 (Pipeline.afterTail₀ cfgs (dats m) 0 (entry m) [hostOps1]) r

set_option backward.isDefEq.respectTransparency.types false in
set_option maxHeartbeats 800000 in
/-- The program runs to such a state, with every semaphore counter at zero. -/
theorem runs : θ_run defs (onTc (τ := τ) (main (F := F))) (s₀ m ρ) (fun r => Ends m r ∧ r.2.sem = fun _ => 0) :=
  Pipeline.θ_run_frame_around (Q' := _) cfgs (dats m) (0 : Fin 1) launch0 defs₀ Variants.none m ρ main
    (hbody := fun c => (body_ok m c).loose) (hshare := fun c => (dats m 0 c).share_full fun _ => rfl)
    (howed := fun _ _ => rfl) (V₀ := entry m) (opss := [hostOps1]) (hsub := tail_sub) (hfresh := tail_fresh)
    (hkeep := tail_keeps) (hmain := around m Variants.none) (hA := dats_A m) (hΦ := fun _ _ => rfl)

/-- No host line writes the reference, no window stages it, and it outlives the region. -/
abbrev Untouched (b : Ref sig .tc) : Prop :=
  b ∉ written ∧ b ∉ [main_v0] ∧ (∀ w, Pipeline.arrRef spec0 w ≠ b) ∧ b.isScoped = false

/-- In such a state an untouched reference is as launched. -/
theorem kept {r : PUnit × MemSt nD τ sig (Elt F)} (h : Ends m r) (c : Dev nD) (b : Ref sig .tc) (hb : Untouched b) :
    r.2.mem ((c : Thread nD τ).loc b) = m ((c : Thread nD τ).loc b) :=
  ((h c).2 b (Pipeline.mem_restRefs_of b hb.2.2.2 hb.2.2.1)).trans
    (tail_of_not_written m (dats m) c hb.1 hb.2.1 hb.2.2.1)

/-- Every argument array is as launched. -/
def Unchanged (r : PUnit × MemSt nD τ sig (Elt F)) (c : Dev nD) : Prop :=
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)

/-- In such a state every argument array is as launched. -/
theorem unchanged {r : PUnit × MemSt nD τ sig (Elt F)} (h : Ends m r) (c : Dev nD) : Unchanged m r c := by
  have k := kept m h c
  refine ⟨?_, ?_, ?_, ?_, ?_, ?_, ?_, ?_, ?_, ?_, ?_, ?_, ?_, ?_, ?_, ?_, ?_, ?_⟩ <;> exact k _ (by decide)

/-- The program runs, leaving every argument array as launched and every semaphore counter at zero. -/
theorem frame : θ_run defs (onTc (τ := τ) (main (F := F))) ⟨m, fun _ => 0, ρ⟩
    (fun r => (∀ c : Dev nD, Unchanged m r c) ∧ r.2.sem = fun _ => 0) :=
  (θ_run defs _ _).mono (fun _ h => ⟨fun c => unchanged m h.1 c, h.2⟩) (runs m ρ)

end Cert.KernelIdeal.Launched

end
-- ==== Proof.Features.lean ====
module
public import Idealize.ShloMosaic.Lib.Pointwise
public import Idealize.ShloMosaic.Lib.Pipeline.Value

/-! The two feature vectors as functions of the embedding tables and of one bit per table: the user's has four parts of
    sixteen entries, the movie's one of sixteen and eighteen of four. -/

@[expose] public section
namespace Cert.Features
open Idealize.ShloMosaic

variable {α : Type}

/-- Which of the four user tables entry `j` of the user's feature vector comes from. -/
def userPart (j : Fin 64) : Fin 4 := ⟨j.val / 16, by omega⟩

/-- Which of the nineteen movie tables entry `j` of the movie's feature vector comes from: the movie table for the first
    sixteen, then one genre table for each four. -/
def moviePart (j : Fin 88) : Fin 19 := if h : j.val < 16 then 0 else ⟨1 + (j.val - 16) / 4, by omega⟩

/-- Entry `j` of the user's feature vector where every table is read at row `i`. -/
def user (T2 : (⟨2, ![6050, 16]⟩ : Shape).Idx → α) (T3 : (⟨2, ![2, 16]⟩ : Shape).Idx → α)
    (T4 : (⟨2, ![7, 16]⟩ : Shape).Idx → α) (T5 : (⟨2, ![25, 16]⟩ : Shape).Idx → α) (i : Fin 2) (j : Fin 64) : α :=
  if h : j.val < 16 then T2 (ix2 ⟨i.val, by omega⟩ ⟨j.val, h⟩)
  else if h2 : j.val - 16 < 16 then T3 (ix2 ⟨i.val, by omega⟩ ⟨j.val - 16, h2⟩)
  else if h3 : j.val - 16 - 16 < 16 then T4 (ix2 ⟨i.val, by omega⟩ ⟨j.val - 16 - 16, h3⟩)
  else T5 (ix2 ⟨i.val, by omega⟩ ⟨j.val - 16 - 16 - 16, by omega⟩)

/-- Entry `j` of the movie's feature vector where every table is read at row `i`. -/
def movie (T6 : (⟨2, ![4000, 16]⟩ : Shape).Idx → α) (T7 : (⟨3, ![18, 2, 4]⟩ : Shape).Idx → α) (i : Fin 2)
    (j : Fin 88) : α :=
  if h : j.val < 16 then T6 (ix2 ⟨i.val, by omega⟩ ⟨j.val, h⟩)
  else T7 (ix3 ⟨(j.val - 16) / 4, by omega⟩ i ⟨(j.val - 16) % 4, by omega⟩)

/-- A stack of arrays read in its `k`-th piece: `above` rows lie over that piece. -/
theorem rows_read {n p q : ℕ} (xs : List ((s : Shape) × (s.Idx → α)))
    (h : Shape.Concatenates (xs.map (·.1)) ⟨2, ![p, q]⟩ 0) (k : ℕ) (hk : k < xs.length)
    (x : (⟨2, ![n, q]⟩ : Shape).Idx → α) (hx : xs[k] = ⟨⟨2, ![n, q]⟩, x⟩) (above : ℕ)
    (habove : (((xs.take k).map (·.1)).map fun s =>
      if h : s.rank = 2 then s.size ((0 : Fin 2).cast h.symm) else 0).sum = above)
    (r : Fin n) (l : Fin q) (hr : above + r.val < p) :
    concatenate ⟨2, ![p, q]⟩ 0 xs h (ix2 ⟨above + r.val, hr⟩ l) = x (ix2 r l) := by
  refine concatenate_apply_piece (t := ⟨2, ![p, q]⟩) 0 xs h _ k hk _ x hx rfl above habove (ix2 r l) ?_ rfl
  intro b hb
  fin_cases b
  · exact absurd rfl hb
  · rfl

end Cert.Features
-- ==== Proof.Packed.lean ====
module
public import proofs.«01_k».proof.Proof.KernelIdealLaunch
public import proofs.«01_k».proof.Proof.Features
public import Idealize.ShloMosaic.Lib.StableHlo.ReadAt

/-! What the two arrays the kernel's region reads hold, entry by entry: the weights and the feature vectors packed into
    488 rows, and the bits transposed over a last row of ones. -/

@[expose] public section
set_option maxRecDepth 16384
noncomputable section
namespace Cert.KernelIdeal.Packed
open Cert.KernelIdeal Cert.KernelIdeal.Gen Cert.KernelIdeal.Launched
open Idealize.ShloMosaic Idealize.ShloMosaic.TcCoe
variable {F : FTy → Type} [FloatOps F] (V : Valuation τ sig (Elt F))

/-- What reference `b` holds after the first `n` host lines, from the contents `V`. -/
abbrev held (n : ℕ) (b : Ref sig .tc) : b.ty.Contents (Elt F) := StableHlo.upto hostOps0 V n (Proc.devRef .tc b)

/-- The sixteen arrays stacked into the first 456 rows of the packed weights. -/
def upper (G : Valuation τ sig (Elt F)) : List ((s : Shape) × (s.Idx → F .f32)) :=
  [⟨S64x128, G (Proc.devRef .tc main_arg8)⟩, ⟨S88x128, G (Proc.devRef .tc main_arg12)⟩,
   ⟨S1x128, G (Proc.devRef .tc main_call0_v34)⟩, ⟨S7x128, G (Proc.devRef .tc main_call0_v35)⟩,
   ⟨S1x128, G (Proc.devRef .tc main_call0_v36)⟩, ⟨S7x128, G (Proc.devRef .tc main_call0_v37)⟩,
   ⟨S128x128, G (Proc.devRef .tc main_call0_v38)⟩, ⟨S128x128, G (Proc.devRef .tc main_call0_v39)⟩,
   ⟨S1x128, G (Proc.devRef .tc main_call0_v40)⟩, ⟨S7x128, G (Proc.devRef .tc main_call0_v41)⟩,
   ⟨S1x128, G (Proc.devRef .tc main_call0_v42)⟩, ⟨S7x128, G (Proc.devRef .tc main_call0_v43)⟩,
   ⟨S6x128, G (Proc.devRef .tc main_call0_v44)⟩, ⟨S2x128, G (Proc.devRef .tc main_call0_v45)⟩,
   ⟨S1x128, G (Proc.devRef .tc main_call0_v47)⟩, ⟨S7x128, G (Proc.devRef .tc main_call0_v48)⟩]

/-- The blocks of the upper rows fill 456 rows of 128 columns. -/
theorem upper_fits (G : Valuation τ sig (Elt F)) : Shape.Concatenates ((upper G).map (·.1)) S456x128 0 :=
  concatenates_S64x128_S88x128_S1x128_S7x128_S1x128_S7x128_S128x128_S128x128_S1x128_S7x128_S1x128_S7x128_S6x128_S2x128_S1x128_S7x128_S456x128_d0

/-- The eight arrays stacked into the last 32 rows of the packed weights. -/
def lower (G : Valuation τ sig (Elt F)) : List ((s : Shape) × (s.Idx → F .f32)) :=
  [⟨S1x128, G (Proc.devRef .tc main_call0_v49)⟩, ⟨S7x128, G (Proc.devRef .tc main_call0_v50)⟩,
   ⟨S1x128, G (Proc.devRef .tc main_call0_v51)⟩, ⟨S7x128, G (Proc.devRef .tc main_call0_v52)⟩,
   ⟨S1x128, G (Proc.devRef .tc main_call0_v53)⟩, ⟨S7x128, G (Proc.devRef .tc main_call0_v54)⟩,
   ⟨S1x128, G (Proc.devRef .tc main_call0_v55)⟩, ⟨S7x128, G (Proc.devRef .tc main_call0_v56)⟩]

/-- The blocks of the lower rows fill 32 rows of 128 columns. -/
theorem lower_fits (G : Valuation τ sig (Elt F)) : Shape.Concatenates ((lower G).map (·.1)) S32x128 0 :=
  concatenates_S1x128_S7x128_S1x128_S7x128_S1x128_S7x128_S1x128_S7x128_S32x128_d0

/-- The three arrays stacked into the kernel's input. -/
def bits (G : Valuation τ sig (Elt F)) : List ((s : Shape) × (s.Idx → BitVec 32)) :=
  [⟨S4x16384, G (Proc.devRef .tc main_call0_v60)⟩, ⟨S19x16384, G (Proc.devRef .tc main_call0_v61)⟩,
   ⟨S1x16384, G (Proc.devRef .tc main_call0_v62)⟩]

/-- The blocks of the network input fill 24 rows of 16384 columns. -/
theorem bits_fits (G : Valuation τ sig (Elt F)) : Shape.Concatenates ((bits G).map (·.1)) S24x16384 0 :=
  concatenates_S4x16384_S19x16384_S1x16384_S24x16384_d0

/-- Before the launch the host holds the upper rows as the join of their blocks. -/
theorem held_upper : held V 79 main_call0_v57 = concatenate S456x128 0 (upper (StableHlo.upto hostOps0 V 77)) (upper_fits _) := by
  refine (StableHlo.upto_last_write (i := 77) [main_call0_v58] rfl rfl (by decide) _).trans ?_
  generalize StableHlo.upto hostOps0 V 77 = G
  exact StableHlo.nary_result _ _ _ _ _ G

/-- Before the launch the host holds the lower rows as the join of their blocks. -/
theorem held_lower : held V 79 main_call0_v58 = concatenate S32x128 0 (lower (StableHlo.upto hostOps0 V 78)) (lower_fits _) := by
  refine (StableHlo.upto_last_write (i := 78) [] rfl rfl (by decide) _).trans ?_
  generalize StableHlo.upto hostOps0 V 78 = G
  exact StableHlo.nary_result _ _ _ _ _ G

/-- Before the launch the host holds the integer input as the join of its blocks. -/
theorem held_bits : held V 85 main_call0_v63 = concatenate S24x16384 0 (bits (StableHlo.upto hostOps0 V 84)) (bits_fits _) := by
  refine (StableHlo.upto_last_write (i := 84) [] rfl rfl (by decide) _).trans ?_
  generalize StableHlo.upto hostOps0 V 84 = G
  exact StableHlo.nary_result _ _ _ _ _ G

/-- The packed weights, as the region finds them. -/
abbrev weights : FVec F S488x128 .f32 := StableHlo.after hostOps0 V (Proc.devRef .tc main_call0_v59)

/-- The input, as the region finds it. -/
abbrev input : FVec F S24x16384 .f32 := StableHlo.after hostOps0 V (Proc.devRef .tc main_call0_v64)

/-- The packed weights are the upper rows above the lower rows. -/
theorem weights_eq : weights V = concatenate S488x128 0 [⟨S456x128, held V 79 main_call0_v57⟩, ⟨S32x128, held V 79 main_call0_v58⟩]
    concatenates_S456x128_S32x128_S488x128_d0 := by
  refine (StableHlo.after_last_write (i := 79) [main_call0_v60, main_call0_v61, main_call0_c_13, main_call0_v62, main_call0_v63,
    main_call0_v64] rfl rfl (by decide) _).trans ?_
  unfold held
  generalize StableHlo.upto hostOps0 V 79 = G
  exact StableHlo.binary_result _ _ _ _ _ _ _ G

/-- The packed input is the joined integers, turned into floats. -/
theorem input_eq : input V = sitofp .f32 (held V 85 main_call0_v63) := by
  refine (StableHlo.after_last_write (i := 85) [] rfl rfl (by decide) _).trans ?_
  unfold held
  generalize StableHlo.upto hostOps0 V 85 = G
  exact StableHlo.unary_result _ _ _ _ _ G

/-- The packed weights read in a piece of the first 456 rows. -/
theorem weights_upper {n : ℕ} (k : ℕ) (hk : k < 16) (x : (⟨2, ![n, 128]⟩ : Shape).Idx → F .f32)
    (hx : (upper (StableHlo.upto hostOps0 V 77))[k]'hk = ⟨⟨2, ![n, 128]⟩, x⟩) (above : ℕ)
    (habove : ((((upper (StableHlo.upto hostOps0 V 77)).take k).map (·.1)).map fun s =>
      if h : s.rank = 2 then s.size ((0 : Fin 2).cast h.symm) else 0).sum = above)
    (r : Fin n) (l : Fin 128) (hr : above + r.val < 456) :
    weights V (ix2 ⟨above + r.val, by omega⟩ l) = x (ix2 r l) := by
  have e := Features.rows_read (p := 488) (n := 456) [⟨S456x128, held V 79 main_call0_v57⟩, ⟨S32x128, held V 79 main_call0_v58⟩]
    concatenates_S456x128_S32x128_S488x128_d0 0 (show 0 < 2 by decide) (held V 79 main_call0_v57) rfl 0 rfl ⟨above + r.val, hr⟩ l (by dsimp only; omega)
  rw [weights_eq]
  simp only [Nat.zero_add] at e
  rw [e, held_upper]
  exact Features.rows_read _ (upper_fits _) k hk x hx above habove r l hr

/-- The packed weights read in a piece of the last 32 rows. -/
theorem weights_lower (k : ℕ) (hk : k < 8) (x : (⟨2, ![1, 128]⟩ : Shape).Idx → F .f32)
    (hx : (lower (StableHlo.upto hostOps0 V 78))[k]'hk = ⟨⟨2, ![1, 128]⟩, x⟩) (above : ℕ)
    (habove : ((((lower (StableHlo.upto hostOps0 V 78)).take k).map (·.1)).map fun s =>
      if h : s.rank = 2 then s.size ((0 : Fin 2).cast h.symm) else 0).sum = above)
    (l : Fin 128) (hr : above < 32) :
    weights V (ix2 ⟨456 + above, by omega⟩ l) = x (ix2 0 l) := by
  have e := Features.rows_read (p := 488) (n := 32) [⟨S456x128, held V 79 main_call0_v57⟩, ⟨S32x128, held V 79 main_call0_v58⟩]
    concatenates_S456x128_S32x128_S488x128_d0 1 (show 1 < 2 by decide) (held V 79 main_call0_v58) rfl 456 rfl ⟨above, hr⟩ l (by dsimp only; omega)
  rw [weights_eq, e, held_lower]
  exact Features.rows_read _ (lower_fits _) k hk x hx above habove 0 l hr

end Cert.KernelIdeal.Packed
-- ==== Proof.PackedRows.lean ====
module
public import proofs.«01_k».proof.Proof.Packed

/-! Each array the region's body loads from the packed weights, read back as the argument it was packed from. -/

@[expose] public section
set_option maxRecDepth 16384
noncomputable section
namespace Cert.KernelIdeal.Packed
open Cert.KernelIdeal Cert.KernelIdeal.Gen Cert.KernelIdeal.Launched
open Idealize.ShloMosaic Idealize.ShloMosaic.TcCoe
variable {F : FTy → Type} [FloatOps F] (V : Valuation τ sig (Elt F))

/-- One of the program's arguments. -/
abbrev arg (b : Ref sig .tc) : b.ty.Contents (Elt F) := V (Proc.devRef .tc b)

/-- Rows 0 to 63 of the packed weights hold the first user layer. -/
theorem uW1_read (j : Fin 64) (l : Fin 128) : weights V (ix2 ⟨j.val, by omega⟩ l) = arg V main_arg8 (ix2 j l) := by
  have e := weights_upper V 0 (by decide) (held V 77 main_arg8) rfl 0 rfl j l (by omega)
  simp only [Nat.zero_add] at e
  rw [e]
  after_reads_at

/-- Rows 64 to 151 of the packed weights hold the first movie layer. -/
theorem mW1_read (j : Fin 88) (l : Fin 128) :
    weights V (ix2 ⟨64 + j.val, by omega⟩ l) = arg V main_arg12 (ix2 j l) := by
  rw [weights_upper V 1 (by decide) (held V 77 main_arg12) rfl 64 rfl j l (by omega)]
  after_reads_at

/-- Row 152 of the packed weights holds the first user bias. -/
theorem ub1_read (l : Fin 128) : weights V (ix2 152 l) = arg V main_arg9 (ix1 l) := by
  refine (weights_upper V 2 (by decide) (held V 77 main_call0_v34) rfl 152 rfl 0 l (by decide)).trans ?_
  after_reads_at

/-- Row 160 of the packed weights holds the first movie bias. -/
theorem mb1_read (l : Fin 128) : weights V (ix2 160 l) = arg V main_arg13 (ix1 l) := by
  refine (weights_upper V 4 (by decide) (held V 77 main_call0_v36) rfl 160 rfl 0 l (by decide)).trans ?_
  after_reads_at

/-- Rows 168 to 295 of the packed weights hold the second user layer, transposed. -/
theorem uW2_read (j l : Fin 128) : weights V (ix2 ⟨168 + j.val, by omega⟩ l) = arg V main_arg10 (ix2 l j) := by
  rw [weights_upper V 6 (by decide) (held V 77 main_call0_v38) rfl 168 rfl j l (by omega)]
  after_reads_at

/-- Rows 296 to 423 of the packed weights hold the second movie layer, transposed. -/
theorem mW2_read (j l : Fin 128) : weights V (ix2 ⟨296 + j.val, by omega⟩ l) = arg V main_arg14 (ix2 l j) := by
  rw [weights_upper V 7 (by decide) (held V 77 main_call0_v39) rfl 296 rfl j l (by omega)]
  after_reads_at

/-- Row 424 of the packed weights holds the second user bias. -/
theorem ub2_read (l : Fin 128) : weights V (ix2 424 l) = arg V main_arg11 (ix1 l) := by
  refine (weights_upper V 8 (by decide) (held V 77 main_call0_v40) rfl 424 rfl 0 l (by decide)).trans ?_
  after_reads_at

/-- Row 432 of the packed weights holds the second movie bias. -/
theorem mb2_read (l : Fin 128) : weights V (ix2 432 l) = arg V main_arg15 (ix1 l) := by
  refine (weights_upper V 10 (by decide) (held V 77 main_call0_v42) rfl 432 rfl 0 l (by decide)).trans ?_
  after_reads_at

/-- Rows 440 to 445 of the packed weights hold the last layer, transposed. -/
theorem pW_read (o : Fin 6) (l : Fin 128) : weights V (ix2 ⟨440 + o.val, by omega⟩ l) = arg V main_arg16 (ix2 l o) := by
  rw [weights_upper V 12 (by decide) (held V 77 main_call0_v44) rfl 440 rfl o l (by omega)]
  after_reads_at

/-- Row 448 of the packed weights begins with the last bias. -/
theorem pb_read (o : Fin 6) : weights V (ix2 448 ⟨o.val, by omega⟩) = arg V main_arg17 (ix1 o) := by
  refine (weights_upper V 14 (by decide) (held V 77 main_call0_v47) rfl 448 (by simp [upper]) 0 ⟨o.val, by omega⟩
    (by decide)).trans ?_
  after_reads_at

/-- Row 456 of the packed weights begins with the user features of all-zero indices. -/
theorem user0_read (j : Fin 64) : weights V (ix2 456 ⟨j.val, by omega⟩)
    = Features.user (arg V main_arg2) (arg V main_arg3) (arg V main_arg4) (arg V main_arg5) 0 j := by
  refine (weights_lower V 0 (by decide) (held V 78 main_call0_v49) rfl 0 rfl ⟨j.val, by omega⟩ (by decide)).trans ?_
  unfold Features.user
  after_reads_at
  split_ifs <;> after_reads_at <;> split_ifs <;> rfl

/-- Row 464 of the packed weights begins with the user features of all-one indices. -/
theorem user1_read (j : Fin 64) : weights V (ix2 464 ⟨j.val, by omega⟩)
    = Features.user (arg V main_arg2) (arg V main_arg3) (arg V main_arg4) (arg V main_arg5) 1 j := by
  refine (weights_lower V 2 (by decide) (held V 78 main_call0_v51) rfl 8 rfl ⟨j.val, by omega⟩ (by decide)).trans ?_
  unfold Features.user
  after_reads_at
  split_ifs <;> after_reads_at <;> split_ifs <;> rfl

/-- Row 472 of the packed weights begins with the movie features of all-zero indices. -/
theorem movie0_read (j : Fin 88) : weights V (ix2 472 ⟨j.val, by omega⟩)
    = Features.movie (arg V main_arg6) (arg V main_arg7) 0 j := by
  refine (weights_lower V 4 (by decide) (held V 78 main_call0_v53) rfl 16 rfl ⟨j.val, by omega⟩ (by decide)).trans ?_
  unfold Features.movie
  after_reads_at
  split_ifs <;> after_reads_at

/-- Row 480 of the packed weights begins with the movie features of all-one indices. -/
theorem movie1_read (j : Fin 88) : weights V (ix2 480 ⟨j.val, by omega⟩)
    = Features.movie (arg V main_arg6) (arg V main_arg7) 1 j := by
  refine (weights_lower V 6 (by decide) (held V 78 main_call0_v55) rfl 24 rfl ⟨j.val, by omega⟩ (by decide)).trans ?_
  unfold Features.movie
  after_reads_at
  split_ifs <;> after_reads_at

/-- The first four rows of the input hold the user's bits. -/
theorem user_bit (p : Fin 4) (b : Fin 16384) : input V (ix2 ⟨p.val, by omega⟩ b) = FloatOps.sitofp (F := F) .f32 (arg V main_arg0 (ix2 b p)) := by
  have e := Features.rows_read _ (bits_fits (StableHlo.upto hostOps0 V 84)) 0 (show 0 < 3 by decide) (held V 84 main_call0_v60) rfl 0 rfl p b (by omega)
  simp only [Nat.zero_add] at e
  rw [input_eq, held_bits]
  pointwise
  rw [e]
  after_reads_at

/-- The nineteen rows after them hold the movie's bits. -/
theorem movie_bit (p : Fin 19) (b : Fin 16384) :
    input V (ix2 ⟨4 + p.val, by omega⟩ b) = FloatOps.sitofp (F := F) .f32 (arg V main_arg1 (ix2 b p)) := by
  rw [input_eq, held_bits]
  pointwise
  rw [Features.rows_read _ (bits_fits (StableHlo.upto hostOps0 V 84)) 1 (show 1 < 3 by decide)
    (held V 84 main_call0_v61) rfl 4 rfl p b (by omega)]
  after_reads_at

/-- The last row holds ones. -/
theorem one_bit (b : Fin 16384) : input V (ix2 23 b) = FloatOps.sitofp (F := F) .f32 1#32 := by
  have e := Features.rows_read _ (bits_fits (StableHlo.upto hostOps0 V 84)) 2 (show 2 < 3 by decide)
    (held V 84 main_call0_v62) rfl 23 rfl 0 b (by decide)
  rw [input_eq, held_bits]
  refine (congrArg _ e).trans ?_
  after_reads_at

end Cert.KernelIdeal.Packed
-- ==== Proof.Towers.lean ====
module
public import proofs.«01_k».proof.Proof.Features
public import Idealize.ShloMosaic.Lib.IdealHost

/-! The two towers and the scores over the extended reals, and the one equation the kernel rests on: a first layer applied
    to table rows picked by bits is the layer of the rows at zero plus, for each bit set, the layer of the difference. -/

@[expose] public section
noncomputable section
namespace Cert.Towers
open Idealize.ShloMosaic

/-- A dense layer: the vector `x` through the matrix `W`, plus the bias `b`. -/
def layer {n k : ℕ} (x : Fin n → EReal) (W : (⟨2, ![n, k]⟩ : Shape).Idx → EReal) (b : (⟨1, ![k]⟩ : Shape).Idx → EReal)
    (h : Fin k) : EReal :=
  ∑ j, x j * W (ix2 j h) + b (ix1 h)

/-- One tower: a layer, its negative entries set to zero, a second layer. -/
def tower {n : ℕ} (x : Fin n → EReal) (W1 : (⟨2, ![n, 128]⟩ : Shape).Idx → EReal) (b1 : (⟨1, ![128]⟩ : Shape).Idx → EReal)
    (W2 : (⟨2, ![128, 128]⟩ : Shape).Idx → EReal) (b2 : (⟨1, ![128]⟩ : Shape).Idx → EReal) (l : Fin 128) : EReal :=
  layer (fun h => max (layer x W1 b1 h) 0) W2 b2 l

/-- The scores: the two towers' outputs multiplied entry by entry, through a last layer. -/
def scores (u v : Fin 128 → EReal) (W : (⟨2, ![128, 6]⟩ : Shape).Idx → EReal) (b : (⟨1, ![6]⟩ : Shape).Idx → EReal)
    (o : Fin 6) : EReal :=
  layer (fun l => u l * v l) W b o

/-- A bit as an extended real. -/
def bit (i : Fin 2) : EReal := ((i.val : ℝ) : EReal)

/-- Neither infinity. -/
def Finite (x : EReal) : Prop := x ≠ ⊥ ∧ x ≠ ⊤

/-- A finite number taken off a factor is put back by its own product, whatever the factor is. -/
theorem put_back (x : EReal) {a w : EReal} (ha : Finite a) (hw : Finite w) : (x - a) * w + a * w = x * w := by
  lift a to ℝ using ⟨ha.2, ha.1⟩
  lift w to ℝ using ⟨hw.2, hw.1⟩
  induction x with
  | coe x => rw [← EReal.coe_sub, ← EReal.coe_mul, ← EReal.coe_mul, ← EReal.coe_mul, ← EReal.coe_add]; congr 1; ring
  | top =>
    rw [EReal.top_sub_coe, ← EReal.coe_mul]
    rcases lt_trichotomy w 0 with h | rfl | h
    · rw [EReal.top_mul_coe_of_neg h, EReal.bot_add]
    · simp
    · rw [EReal.top_mul_coe_of_pos h, EReal.top_add_coe]
  | bot =>
    rw [EReal.bot_sub, ← EReal.coe_mul]
    rcases lt_trichotomy w 0 with h | rfl | h
    · rw [EReal.bot_mul_coe_of_neg h, EReal.top_add_coe]
    · simp
    · rw [EReal.bot_mul_coe_of_pos h, EReal.bot_add]

/-- A bit distributes over a sum. -/
theorem sum_mul_bit {ι : Type} [Fintype ι] (f : ι → EReal) (i : Fin 2) : (∑ j, f j) * bit i = ∑ j, f j * bit i := by
  fin_cases i <;> simp [bit]

/-- Where part `p` of the vector is row `t p` of `f`: the bits' differences, summed part by part, on top of the product
    with row zero give the product with the vector. Row zero and the weights have to be finite, row one does not. -/
theorem blend {n P : ℕ} (part : Fin n → Fin P) (f : Fin 2 → Fin n → EReal) (w : Fin n → EReal)
    (hf : ∀ j, Finite (f 0 j)) (hw : ∀ j, Finite (w j)) (t : Fin P → Fin 2) :
    ∑ p, (∑ j, (if part j = p then f 1 j - f 0 j else 0) * w j) * bit (t p) + ∑ j, f 0 j * w j
      = ∑ j, f (t (part j)) j * w j := by
  simp only [sum_mul_bit]
  rw [Finset.sum_comm, ← Finset.sum_add_distrib]
  refine Finset.sum_congr rfl fun j _ => ?_
  rw [Finset.sum_eq_single (part j) (fun p _ hp => by rw [if_neg (Ne.symm hp), zero_mul, zero_mul])
    (fun h => absurd (Finset.mem_univ _) h), if_pos rfl]
  generalize t (part j) = i
  fin_cases i
  · simp [bit]
  · simpa [bit] using put_back (f 1 j) (hf j) (hw j)

/-- The number four bits spell, least first. -/
def code (t : Fin 4 → Fin 2) : Fin 16 := ⟨(t 0).val + 2 * (t 1).val + 4 * (t 2).val + 8 * (t 3).val, by omega⟩

/-- Bit `p` of the code of four bits is the `p`-th of them. -/
theorem code_bit (t : Fin 4 → Fin 2) (p : Fin 4) : ((code t).val >>> p.val) % 2 = (t p).val := by
  revert t p; decide

/-- The word of the literal 2. -/
theorem two_f32 : Ideal.ofBits .f32 0x40000000#32 = ((2 : ℝ) : EReal) := by
  simp [Ideal.ofBits, Ideal.ieee, -EReal.coe_mul]; norm_num
/-- The word of the literal 4. -/
theorem four_f32 : Ideal.ofBits .f32 0x40800000#32 = ((4 : ℝ) : EReal) := by
  simp [Ideal.ofBits, Ideal.ieee, -EReal.coe_mul]; norm_num
/-- The word of the literal 8. -/
theorem eight_f32 : Ideal.ofBits .f32 0x41000000#32 = ((8 : ℝ) : EReal) := by
  simp [Ideal.ofBits, Ideal.ieee, -EReal.coe_mul]; norm_num

/-- A number below sixteen read back from the reals as a word. -/
theorem word_of_real (k : Fin 16) : Ideal.fptosi 32 ((k.val : ℝ) : EReal) = BitVec.ofNat 32 k.val := by
  have hk : Ideal.toIntClamped (-(2 ^ (32 - 1) : ℕ)) ((2 ^ (32 - 1) : ℕ) - 1) ((k.val : ℝ) : EReal) = (k.val : ℤ) := by
    show max _ (min _ (if (0 : ℝ) ≤ (k.val : ℝ) then ⌊(k.val : ℝ)⌋ else ⌈(k.val : ℝ)⌉)) = _
    rw [if_pos (Nat.cast_nonneg _), Int.floor_natCast]
    omega
  rw [Ideal.fptosi, hk, BitVec.ofInt_natCast]

/-- The word the kernel forms from four bits is the number they spell. -/
theorem word_of_bits (t : Fin 4 → Fin 2) :
    Ideal.fptosi 32 (bit (t 0) + Ideal.ofBits .f32 0x40000000#32 * bit (t 1) + Ideal.ofBits .f32 0x40800000#32 * bit (t 2)
      + Ideal.ofBits .f32 0x41000000#32 * bit (t 3)) = BitVec.ofNat 32 (code t).val := by
  rw [two_f32, four_f32, eight_f32, ← word_of_real]
  simp only [bit, ← EReal.coe_mul, ← EReal.coe_add]
  congr 2
  simp [code]

/-- A sum that keeps only the entry a word names is that entry. -/
theorem pick (U : Fin 16 → EReal) (κ : Fin 16) :
    ∑ k : Fin 16, Scalar.select (IntOp.cmpi .eq (BitVec.ofNat 32 k.val) (BitVec.ofNat 32 κ.val)) (U k) 0 = U κ := by
  have e : ∀ k : Fin 16, IntOp.cmpi .eq (BitVec.ofNat 32 k.val) (BitVec.ofNat 32 κ.val) = if k = κ then 1#1 else 0#1 := by
    revert κ; decide
  simp only [e]
  rw [Finset.sum_eq_single κ]
  · simp [Scalar.select]
  · intro k _ hk; simp [Scalar.select, hk]
  · intro h; exact absurd (Finset.mem_univ _) h

end Cert.Towers
-- ==== Proof.Payloads.lean ====
module
public import proofs.«01_k».proof.Proof.KernelIdealLaunch
public import proofs.«01_k».proof.Proof.Towers

/-! The values the region's body forms on its way, entry by entry over the extended reals. -/

@[expose] public section
set_option maxRecDepth 16384
noncomputable section
namespace Cert.KernelIdeal.Payload
open Cert.KernelIdeal Cert.KernelIdeal.Gen Cert.Towers
open Idealize.ShloMosaic

/-- The word test that entry `j` of the user's vector belongs to part `p`. -/
def inUserPart (j : Fin 64) (p : Fin 4) : BitVec 1 :=
  IntOp.cmpi CmpIPredicate.eq
    (Scalar.select
      (IntOp.andi
        (IntOp.cmpi CmpIPredicate.ne
          (IntOp.subi (BitVec.setWidth 32 (IntOp.cmpi CmpIPredicate.sgt (BitVec.ofNat 32 ↑j) 0#32))
            (BitVec.setWidth 32 (IntOp.cmpi CmpIPredicate.slt (BitVec.ofNat 32 ↑j) 0#32)))
          (Scalar.subi (Scalar.extui (Scalar.cmpi CmpIPredicate.sgt 16#32 0#32))
            (Scalar.extui (Scalar.cmpi CmpIPredicate.slt 16#32 0#32))))
        (IntOp.cmpi CmpIPredicate.ne (IntOp.remsi ArithUnit.vector (BitVec.ofNat 32 ↑j) 16#32) 0#32))
      (IntOp.subi (IntOp.divsi ArithUnit.vector (BitVec.ofNat 32 ↑j) 16#32) 1#32)
      (IntOp.divsi ArithUnit.vector (BitVec.ofNat 32 ↑j) 16#32))
    (BitVec.ofNat 32 ↑p)

/-- The mask of the user features marks the features of each part. -/
theorem inUserPart_eq : ∀ (j : Fin 64) (p : Fin 4), inUserPart j p = if Features.userPart j = p then 1#1 else 0#1 := by
  decide +kernel

/-- A product selected by a mask bit is the product with the selected factor. -/
theorem select_mul (q : Prop) [Decidable q] (a b : EReal) :
    Scalar.select (if q then 1#1 else 0#1) (a * b) 0 = (if q then a else 0) * b := by
  split_ifs <;> simp [Scalar.select]

/-- The user's differences, one row per part, through the first layer. -/
theorem userRows_read (W : FVec Ideal S64x128 .f32) (f0 f1 : FVec Ideal S1x64 .f32) (p : Fin 4) (h : Fin 128) :
    k0_pay15 W f0 f1 (iota .tc S4x64 32 [1] iota_S4x64_d1_w32) (iota .tc S4x64 32 [0] iota_S4x64_d0_w32) 16#32 (ix2 p h)
      = ∑ j : Fin 64, (if Features.userPart j = p then f1 (ix2 0 j) - f0 (ix2 0 j) else 0) * W (ix2 j h) := by
  pointwise [k0_pay15]
  refine Finset.sum_congr rfl fun j _ => ?_
  rw [← select_mul, ← inUserPart_eq]; rfl

/-- The user base: the zero row through the first layer, plus its bias. -/
theorem userBase_read (W : FVec Ideal S64x128 .f32) (b : FVec Ideal S1x128 .f32) (f0 : FVec Ideal S1x64 .f32) (h : Fin 128) :
    k0_pay16 W b f0 (ix2 0 h) = ∑ j : Fin 64, f0 (ix2 0 j) * W (ix2 j h) + b (ix2 0 h) := by
  pointwise [k0_pay16]

/-- The word test that entry `j` of the movie's vector belongs to part `p`. -/
def inMoviePart (j : Fin 88) (p : Fin 19) : BitVec 1 :=
  IntOp.cmpi CmpIPredicate.eq
    (Scalar.select (IntOp.cmpi CmpIPredicate.slt (BitVec.ofNat 32 ↑j) 16#32) (0#32)
      (IntOp.addi (1#32)
        (Scalar.select
          (IntOp.andi
            (IntOp.cmpi CmpIPredicate.ne
              (IntOp.subi
                (BitVec.setWidth 32 (IntOp.cmpi CmpIPredicate.sgt (IntOp.subi (BitVec.ofNat 32 ↑j) 16#32) 0#32))
                (BitVec.setWidth 32 (IntOp.cmpi CmpIPredicate.slt (IntOp.subi (BitVec.ofNat 32 ↑j) 16#32) 0#32)))
              (Scalar.subi (Scalar.extui (Scalar.cmpi CmpIPredicate.sgt 4#32 0#32))
                (Scalar.extui (Scalar.cmpi CmpIPredicate.slt 4#32 0#32))))
            (IntOp.cmpi CmpIPredicate.ne (IntOp.remsi ArithUnit.vector (IntOp.subi (BitVec.ofNat 32 ↑j) 16#32) 4#32)
              0#32))
          (IntOp.subi (IntOp.divsi ArithUnit.vector (IntOp.subi (BitVec.ofNat 32 ↑j) 16#32) 4#32) 1#32)
          (IntOp.divsi ArithUnit.vector (IntOp.subi (BitVec.ofNat 32 ↑j) 16#32) 4#32))))
    (BitVec.ofNat 32 ↑p)

/-- The mask of the movie features marks the features of each part. -/
theorem inMoviePart_eq : ∀ (j : Fin 88) (p : Fin 19), inMoviePart j p = if Features.moviePart j = p then 1#1 else 0#1 := by
  decide +kernel

/-- The movie's differences, one row per part, through the first layer. -/
theorem movieRows_read (W : FVec Ideal S88x128 .f32) (f0 f1 : FVec Ideal S1x88 .f32) (p : Fin 19) (h : Fin 128) :
    k0_pay22 W f0 f1 (iota .tc S19x88 32 [0] iota_S19x88_d0_w32) k0_pay17 k0_pay18 4#32 k0_pay19 k0_pay20 k0_pay21 (ix2 p h)
      = ∑ j : Fin 88, (if Features.moviePart j = p then f1 (ix2 0 j) - f0 (ix2 0 j) else 0) * W (ix2 j h) := by
  pointwise [k0_pay22, k0_pay17, k0_pay18, k0_pay19, k0_pay20, k0_pay21]
  refine Finset.sum_congr rfl fun j _ => ?_
  rw [← select_mul, ← inMoviePart_eq]; rfl

/-- The movie base: the zero row through the first layer, plus its bias. -/
theorem movieBase_read (W : FVec Ideal S88x128 .f32) (b : FVec Ideal S1x128 .f32) (f0 : FVec Ideal S1x88 .f32) (h : Fin 128) :
    k0_pay23 W b f0 (ix2 0 h) = ∑ j : Fin 88, f0 (ix2 0 j) * W (ix2 j h) + b (ix2 0 h) := by
  pointwise [k0_pay23]

/-- The user's second bias, turned into a column. -/
theorem userBias_read (b : FVec Ideal S1x128 .f32) (h : Fin 128) : k0_pay25 b (ix2 h 0) = b (ix2 0 h) := by
  pointwise [k0_pay25, k0_pay24]
  exact Fin.sum_univ_one _

/-- The movie's second bias, turned into a column. -/
theorem movieBias_read (b : FVec Ideal S1x128 .f32) (h : Fin 128) : k0_pay26 b (ix2 h 0) = b (ix2 0 h) := by
  pointwise [k0_pay26, k0_pay24]
  exact Fin.sum_univ_one _

/-- The last bias, turned into a column. -/
theorem scoreBias_read (b : FVec Ideal S1x6 .f32) (o : Fin 6) : k0_pay27 b (ix2 o 0) = b (ix2 0 o) := by
  pointwise [k0_pay27, k0_pay24]
  exact Fin.sum_univ_one _

/-- Bit `p` of the number `k`, as the kernel's words form it. -/
theorem bit_word : ∀ (k : Fin 16) (p : Fin 4),
    (IntOp.andi (IntOp.shrsi ArithUnit.vector (BitVec.ofNat 32 k.val) (BitVec.ofNat 32 p.val)) 1#32).toInt
      = (((k.val >>> p.val) % 2 : ℕ) : ℤ) := by
  decide +kernel

/-- The user's first layer for every number four bits spell. -/
theorem userTable_read (A : FVec Ideal S4x128 .f32) (b : FVec Ideal S1x128 .f32) (h : Fin 128) (t : Fin 4 → Fin 2) :
    k0_pay28 A b (ix2 h (code t)) = ∑ p : Fin 4, A (ix2 p h) * bit (t p) + b (ix2 0 h) := by
  pointwise [k0_pay28, k0_pay24]
  congr 1
  · refine Finset.sum_congr rfl fun p _ => ?_
    congr 1
    show ((((IntOp.andi (IntOp.shrsi ArithUnit.vector (BitVec.ofNat 32 (code t).val) (BitVec.ofNat 32 p.val)) 1#32).toInt : ℤ) : ℝ)
      : EReal) = _
    rw [bit_word, code_bit, bit, Int.cast_natCast]
  · exact Fin.sum_univ_one _

/-- The scores the body stores, from the values it formed before, where the input's first four rows hold bits. -/
theorem scores_read (U2 M2 : FVec Ideal S128x128 .f32) (P : FVec Ideal S6x128 .f32) (A : FVec Ideal S19x128 .f32)
    (c : FVec Ideal S1x128 .f32) (b2 d2 : FVec Ideal S128x1 .f32) (pb : FVec Ideal S6x1 .f32) (T : FVec Ideal S128x16 .f32)
    (x : FVec Ideal S24x16384 .f32) (o : Fin 6) (b : Fin 16384) (t : Fin 4 → Fin 2)
    (ht : ∀ p : Fin 4, x (ix2 ⟨p.val, by omega⟩ b) = bit (t p)) :
    k0_pay29 U2 M2 P A c b2 d2 pb T x (ix2 o b)
      = ∑ l : Fin 128, P (ix2 o l) *
          ((∑ h : Fin 128, U2 (ix2 l h) * max (T (ix2 h (code t))) 0 + b2 (ix2 l 0))
            * (∑ h : Fin 128, M2 (ix2 l h) *
                max (∑ p : Fin 19, A (ix2 p h) * x (ix2 ⟨4 + p.val, by omega⟩ b) + c (ix2 0 h) * x (ix2 23 b)) 0
              + d2 (ix2 l 0)))
        + pb (ix2 o 0) := by
  have h0 := ht 0; have h1 := ht 1; have h2 := ht 2; have h3 := ht 3
  have hw := word_of_bits t
  rw [← h0, ← h1, ← h2, ← h3] at hw
  have split : ∀ h : Fin 128, ∀ G : Fin 24 → EReal, (∀ k : Fin 24, k.val < 4 → G k = 0) →
      (∀ p : Fin 19, G ⟨4 + p.val, by omega⟩ = A (ix2 p h) * x (ix2 ⟨4 + p.val, by omega⟩ b)) →
      G 23 = c (ix2 0 h) * x (ix2 23 b) →
      ∑ k, G k = ∑ p : Fin 19, A (ix2 p h) * x (ix2 ⟨4 + p.val, by omega⟩ b) + c (ix2 0 h) * x (ix2 23 b) := by
    intro h G g0 g1 g2
    rw [show ∑ k, G k = ∑ k : Fin (4 + 20), G k from rfl, Fin.sum_univ_add, Finset.sum_eq_zero fun k _ => g0 _ k.isLt, zero_add,
      Fin.sum_univ_castSucc]
    exact congrArg₂ _ (Finset.sum_congr rfl fun p _ => g1 p) g2
  pointwise [k0_pay29]
  congr 1
  refine Finset.sum_congr rfl fun l _ => ?_
  congr 2
  · refine (Finset.sum_congr rfl fun k _ => ?_).trans (pick (fun k => ∑ h : Fin 128, U2 (ix2 l h) * max (T (ix2 h k)) 0 + b2 (ix2 l 0)) (code t))
    congr 2
  · congr 1
    refine Finset.sum_congr rfl fun h _ => ?_
    congr 2
    refine split h _ ?_ ?_ ?_
    · intro k hk; simp [hk]
    · intro p
      have h4 : ¬ (4 + p.val < 4) := by omega
      have h5 : 4 + p.val - 4 < 19 := by omega
      have h6 : 4 + p.val - 4 = p.val := by omega
      simp [h4]
    · simp

end Cert.KernelIdeal.Payload
-- ==== Proof.Stored.lean ====
module
public import proofs.«01_k».proof.Proof.PackedRows
public import proofs.«01_k».proof.Proof.Payloads

/-! What the region stores, as the two towers and the scores of the program's arguments. -/

@[expose] public section
set_option maxRecDepth 16384
noncomputable section
namespace Cert.KernelIdeal.Stored
open Cert.KernelIdeal Cert.KernelIdeal.Gen Cert.KernelIdeal.Launched Cert.KernelIdeal.Packed Cert.KernelIdeal.Payload
open Cert.Towers
open Idealize.ShloMosaic Idealize.ShloMosaic.TcCoe
variable (V : Valuation τ sig (Elt Ideal))

/-! The body's loads. -/

/-- What the body loads as the first user layer. -/
theorem uW1_loaded (j : Fin 64) (h : Fin 128) :
    k0_pay1 (F := Ideal) (View.ld (weights V) at_uW1) (ix2 j h) = arg V main_arg8 (ix2 j h) := by
  rw [← uW1_read V j h]; pointwise [k0_pay1]

/-- What the body loads as the first movie layer. -/
theorem mW1_loaded (j : Fin 88) (h : Fin 128) :
    k0_pay2 (F := Ideal) (View.ld (weights V) at_mW1) (ix2 j h) = arg V main_arg12 (ix2 j h) := by
  rw [← mW1_read V j h]; pointwise [k0_pay2]

/-- What the body loads as the first user bias. -/
theorem ub1_loaded (h : Fin 128) : k0_pay3 (F := Ideal) (View.ld (weights V) at_ub1) (ix2 0 h) = arg V main_arg9 (ix1 h) := by
  rw [← ub1_read V h]; pointwise [k0_pay3]

/-- What the body loads as the first movie bias. -/
theorem mb1_loaded (h : Fin 128) : k0_pay4 (F := Ideal) (View.ld (weights V) at_mb1) (ix2 0 h) = arg V main_arg13 (ix1 h) := by
  rw [← mb1_read V h]; pointwise [k0_pay4]

/-- What the body loads as the second user layer, transposed. -/
theorem uW2_loaded (l h : Fin 128) : k0_pay5 (F := Ideal) (View.ld (weights V) at_uW2) (ix2 l h) = arg V main_arg10 (ix2 h l) := by
  rw [← uW2_read V l h]; pointwise [k0_pay5]

/-- What the body loads as the second movie layer, transposed. -/
theorem mW2_loaded (l h : Fin 128) : k0_pay6 (F := Ideal) (View.ld (weights V) at_mW2) (ix2 l h) = arg V main_arg14 (ix2 h l) := by
  rw [← mW2_read V l h]; pointwise [k0_pay6]

/-- What the body loads as the second user bias. -/
theorem ub2_loaded (h : Fin 128) : k0_pay7 (F := Ideal) (View.ld (weights V) at_ub2) (ix2 0 h) = arg V main_arg11 (ix1 h) := by
  rw [← ub2_read V h]; pointwise [k0_pay7]

/-- What the body loads as the second movie bias. -/
theorem mb2_loaded (h : Fin 128) : k0_pay8 (F := Ideal) (View.ld (weights V) at_mb2) (ix2 0 h) = arg V main_arg15 (ix1 h) := by
  rw [← mb2_read V h]; pointwise [k0_pay8]

/-- What the body loads as the last layer, transposed. -/
theorem pW_loaded (o : Fin 6) (l : Fin 128) : k0_pay9 (F := Ideal) (View.ld (weights V) at_pW) (ix2 o l) = arg V main_arg16 (ix2 l o) := by
  rw [← pW_read V o l]; pointwise [k0_pay9]

/-- What the body loads as the last bias. -/
theorem pb_loaded (o : Fin 6) : k0_pay10 (F := Ideal) (View.ld (weights V) at_pb) (ix2 0 o) = arg V main_arg17 (ix1 o) := by
  rw [← pb_read V o]; pointwise [k0_pay10]

/-- The user's feature vector with every table read at row `i`. -/
abbrev userRow (i : Fin 2) (j : Fin 64) : EReal :=
  Features.user (α := EReal) (arg V main_arg2) (arg V main_arg3) (arg V main_arg4) (arg V main_arg5) i j

/-- The movie's feature vector with every table read at row `i`. -/
abbrev movieRow (i : Fin 2) (j : Fin 88) : EReal :=
  Features.movie (α := EReal) (arg V main_arg6) (arg V main_arg7) i j

/-- What the body loads as the user features of all-zero indices. -/
theorem user0_loaded (j : Fin 64) : k0_pay11 (F := Ideal) (View.ld (weights V) at_user0) (ix2 0 j) = userRow V 0 j := by
  rw [userRow, ← user0_read V j]; pointwise [k0_pay11]

/-- What the body loads as the user features of all-one indices. -/
theorem user1_loaded (j : Fin 64) : k0_pay12 (F := Ideal) (View.ld (weights V) at_user1) (ix2 0 j) = userRow V 1 j := by
  rw [userRow, ← user1_read V j]; pointwise [k0_pay12]

/-- What the body loads as the movie features of all-zero indices. -/
theorem movie0_loaded (j : Fin 88) : k0_pay13 (F := Ideal) (View.ld (weights V) at_movie0) (ix2 0 j) = movieRow V 0 j := by
  rw [movieRow, ← movie0_read V j]; pointwise [k0_pay13]

/-- What the body loads as the movie features of all-one indices. -/
theorem movie1_loaded (j : Fin 88) : k0_pay14 (F := Ideal) (View.ld (weights V) at_movie1) (ix2 0 j) = movieRow V 1 j := by
  rw [movieRow, ← movie1_read V j]; pointwise [k0_pay14]

/-- The user's differences through the first layer, from the arguments. -/
theorem userRows_loaded (p : Fin 4) (h : Fin 128) :
    k0_pay15 (F := Ideal) (k0_pay1 (View.ld (weights V) at_uW1)) (k0_pay11 (View.ld (weights V) at_user0))
      (k0_pay12 (View.ld (weights V) at_user1)) (iota .tc S4x64 32 [1] iota_S4x64_d1_w32)
      (iota .tc S4x64 32 [0] iota_S4x64_d0_w32) 16#32 (ix2 p h)
    = ∑ j : Fin 64, (if Features.userPart j = p then userRow V 1 j - userRow V 0 j else 0) * arg V main_arg8 (ix2 j h) := by
  rw [userRows_read]
  simp only [uW1_loaded, user0_loaded, user1_loaded]

/-- The movie's differences through the first layer, from the arguments. -/
theorem movieRows_loaded (p : Fin 19) (h : Fin 128) :
    k0_pay22 (F := Ideal) (k0_pay2 (View.ld (weights V) at_mW1)) (k0_pay13 (View.ld (weights V) at_movie0))
      (k0_pay14 (View.ld (weights V) at_movie1)) (iota .tc S19x88 32 [0] iota_S19x88_d0_w32) k0_pay17 k0_pay18 4#32
      k0_pay19 k0_pay20 k0_pay21 (ix2 p h)
    = ∑ j : Fin 88, (if Features.moviePart j = p then movieRow V 1 j - movieRow V 0 j else 0) * arg V main_arg12 (ix2 j h) := by
  rw [movieRows_read]
  simp only [mW1_loaded, movie0_loaded, movie1_loaded]

/-- The body loads the packed input whole. -/
theorem input_loaded (x : FVec Ideal S24x16384 .f32) : View.ld (e' := .f32) (Val := Elt Ideal) x at_input = x := by
  funext i; idx_vars i; pointwise

/-! The bits. -/

/-- The word of a bit, as an extended real. -/
theorem sitofp_bit (w : BitVec 32) (i : Fin 2) (hw : w = BitVec.ofNat 32 i.val) :
    FloatOps.sitofp (F := Ideal) .f32 w = bit i := by
  subst hw
  show (((BitVec.ofNat 32 i.val).toInt : ℝ) : EReal) = _
  fin_cases i <;> simp [bit]

/-- The scores at row `b`, whose user bits are `t` and movie bits `s`. -/
def target (t : Fin 4 → Fin 2) (s : Fin 19 → Fin 2) (o : Fin 6) : EReal :=
  scores
    (tower (fun j => userRow V (t (Features.userPart j)) j) (arg V main_arg8) (arg V main_arg9) (arg V main_arg10)
      (arg V main_arg11))
    (tower (fun j => movieRow V (s (Features.moviePart j)) j) (arg V main_arg12) (arg V main_arg13) (arg V main_arg14)
      (arg V main_arg15))
    (arg V main_arg16) (arg V main_arg17) o

/-- The region stores the scores, where the rows and first-layer weights it blends are finite. -/
theorem stored_eq (o : Fin 6) (b : Fin 16384) (t : Fin 4 → Fin 2) (s : Fin 19 → Fin 2)
    (ht : ∀ p, arg V main_arg0 (ix2 b p) = BitVec.ofNat 32 (t p).val)
    (hs : ∀ p, arg V main_arg1 (ix2 b p) = BitVec.ofNat 32 (s p).val)
    (hu : ∀ j, Finite (userRow V 0 j)) (hm : ∀ j, Finite (movieRow V 0 j))
    (hU : ∀ j h, Finite (arg V main_arg8 (ix2 j h))) (hM : ∀ j h, Finite (arg V main_arg12 (ix2 j h))) :
    stored (input V) (weights V) (ix2 o b) = target V t s o := by
  have bu : ∀ p : Fin 4, input V (ix2 ⟨p.val, by omega⟩ b) = bit (t p) := fun p =>
    (user_bit V p b).trans (sitofp_bit _ _ (ht p))
  have bm : ∀ p : Fin 19, input V (ix2 ⟨4 + p.val, by omega⟩ b) = bit (s p) := fun p =>
    (movie_bit V p b).trans (sitofp_bit _ _ (hs p))
  have b1 : input V (ix2 23 b) = 1 := (one_bit V b).trans ((sitofp_bit _ 1 rfl).trans (by simp [bit]))
  rw [stored, input_loaded, scores_read _ _ _ _ _ _ _ _ _ _ o b t bu]
  simp only [userTable_read, userBase_read, movieBase_read, userBias_read, movieBias_read,
    scoreBias_read, uW1_loaded, mW1_loaded, ub1_loaded, mb1_loaded, uW2_loaded, mW2_loaded, ub2_loaded, mb2_loaded,
    pW_loaded, pb_loaded, user0_loaded, user1_loaded, movie0_loaded, movie1_loaded, bm, b1, mul_one]
  simp only [← add_assoc]
  rw [target, scores, layer]
  congr 1
  refine Finset.sum_congr rfl fun l _ => ?_
  rw [mul_comm]
  congr 2
  · rw [tower, layer]
    congr 1
    refine Finset.sum_congr rfl fun h _ => ?_
    rw [mul_comm, layer]
    refine congrArg (· * _) (congrArg (max · 0) (congrArg (· + _) ?_))
    rw [← blend Features.userPart (userRow V) (fun j => arg V main_arg8 (ix2 j h)) hu (fun j => hU j h) t]
    refine congrArg (· + _) (Finset.sum_congr rfl fun p _ => congrArg (· * _) ?_)
    exact userRows_loaded V p h
  · rw [tower, layer]
    congr 1
    refine Finset.sum_congr rfl fun h _ => ?_
    rw [mul_comm, layer]
    refine congrArg (· * _) (congrArg (max · 0) (congrArg (· + _) ?_))
    rw [← blend Features.moviePart (movieRow V) (fun j => arg V main_arg12 (ix2 j h)) hm (fun j => hM j h) s]
    refine congrArg₂ (· + ·) ?_ ?_
    · refine Finset.sum_congr rfl fun p _ => ?_
      refine congrArg (· * _) ?_
      exact movieRows_loaded V p h
    · rfl

end Cert.KernelIdeal.Stored
-- ==== Proof.KernelValue.lean ====
module
public import proofs.«01_k».proof.Proof.Stored
public import Idealize.ShloMosaic.Lib.Pipeline.Value
public import Idealize.ShloMosaic.Lib.Pipeline.ValueKit.Basic

/-! What the program's result holds after a run: the transpose of what the region stores. -/

@[expose] public section
set_option maxRecDepth 16384
noncomputable section
namespace Cert.KernelIdeal.Launched
open Cert.KernelIdeal Cert.KernelIdeal.Gen Cert.KernelIdeal.Packed
open Idealize.ShloMosaic Idealize.ShloMosaic.TcCoe Idealize.SL.Sem
open Idealize.ShloMosaic.Pipeline (Dat)
variable {F : FTy → Type} [FloatOps F]
variable (m : (ℓ : Loc nD τ sig) → Buf (Elt F) ℓ) (c : Dev nD)

/-- The arguments as launched, on core `c`. -/
abbrev launched : Valuation τ sig (Elt F) := fun b => m (c, b)

/-- The one grid point's block of each window is the first. -/
theorem at_zero : ∀ (w : Fin 3) (a : Fin (cfg0.win w).shape.rank), (cfg0.win w).index t0_0 a = 0 := by decide

/-- A window's one block is its whole array. -/
theorem block_input : block m c 0 t0_0 = input (launched m c) := by
  funext i
  refine congrArg (input (launched m c)) (funext fun a => Fin.ext ?_)
  exact Pipeline.Window.rect_emb_val_of_index_zero (cfg0.win 0) t0_0 a (at_zero 0 a) i

/-- The only block of the weights is the packed weights. -/
theorem block_weights : block m c 1 t0_0 = weights (launched m c) := by
  funext i
  refine congrArg (weights (launched m c)) (funext fun a => Fin.ext ?_)
  exact Pipeline.Window.rect_emb_val_of_index_zero (cfg0.win 1) t0_0 a (at_zero 1 a) i

/-- The one store is the whole of what the body leaves. -/
theorem left_eq (x : Vec F S24x16384 .f32) (w : Vec F S488x128 .f32) : left x w = stored x w := by
  exact View.canon_cons_unit_lit _ _ _ (by decide)

/-- Two grid points' blocks of the output share no index: there is one point. -/
theorem output_disjoint : ∀ t t' : Fin cfg0.N, (cfg0.win 2).flush t = true → (cfg0.win 2).flush t' = true → t ≠ t' →
    Disjoint ((cfg0.win 2).blk t).view.set ((cfg0.win 2).blk t').view.set :=
  fun t t' _ _ hne => absurd ((fin_N0 t).trans (fin_N0 t').symm) hne

/-- The output's array after the region. -/
theorem output_eq : (dats m 0 c).arrAt 2 cfg0.N = stored (input (launched m c)) (weights (launched m c)) := by
  have h := (dats m 0 c).read_blk_arrAt_eq_flushed 2 output_disjoint cfg0.N t0_0 t0_0.isLt (by decide)
  have hf : (dats m 0 c).flushed 2 t0_0 = (cfg0.win 2).cut (grid0.coords t0_0) ((dats m 0 c).after 2 t0_0) := rfl
  rw [hf, after2, left_eq, block_input, block_weights] at h
  generalize stored (input (launched m c)) (weights (launched m c)) = G at h
  generalize (dats m 0 c).arrAt 2 cfg0.N = A at h
  funext i
  refine (congrArg A (funext fun a => Fin.ext ?_)).trans (congrFun h i)
  exact (Pipeline.Window.rect_emb_val_of_index_zero (cfg0.win 2) t0_0 a (at_zero 2 a) i).symm

/-- The result after the last host line is the transpose of the output's array. -/
theorem result_eq :
    Pipeline.afterTail₀ cfgs (dats m) 0 (entry m) [hostOps1] c main_v0
      = transpose S16384x6 [1, 0] ((dats m 0 c).arrAt 2 cfg0.N) transposes_S6x16384_S16384x6_1_0 := by
  unfold Pipeline.afterTail₀
  rw [List.flatten_singleton]
  refine (StableHlo.after_last_write (i := 0) [] rfl rfl (by decide) _).trans ?_
  refine (StableHlo.unary_result _ _ _ _ _ _).trans ?_
  refine congrArg (fun y => transpose S16384x6 [1, 0] y transposes_S6x16384_S16384x6_1_0) ?_
  exact Pipeline.withArrays_arr spec0 (by decide) c (entry m c) (fun w => (dats m 0 c).arrAt w cfg0.N) 2

/-- The result's entry at row `b`, column `o` of the region's array at `o`, `b`. -/
theorem turned_read (y : Vec F S6x16384 .f32) (b : Fin 16384) (o : Fin 6) :
    transpose S16384x6 [1, 0] y transposes_S6x16384_S16384x6_1_0 (ix2 b o) = y (ix2 o b) := by
  pointwise

/-- The result after a run. -/
abbrev result : Vec F S16384x6 .f32 :=
  transpose S16384x6 [1, 0] (stored (input (launched m c)) (weights (launched m c))) transposes_S6x16384_S16384x6_1_0

variable (ρ : Dev nD → PrngReg)

/-- The program runs, its result the transpose of what the region stores and its arguments as launched. -/
theorem value : θ_run defs (onTc (τ := τ) (main (F := F))) ⟨m, fun _ => 0, ρ⟩
    (fun r => ∀ c : Dev nD, r.2.mem ((c.tc : Thread nD τ).loc main_v0) = result m c ∧ Unchanged m r c) := by
  refine (θ_run defs _ _).mono (fun r h c => ⟨?_, unchanged m h.1 c⟩) (runs m ρ)
  refine ((h.1 c).2 main_v0 (Pipeline.mem_restRefs_of main_v0 rfl (by decide))).trans ((result_eq m c).trans ?_)
  rw [output_eq]

end Cert.KernelIdeal.Launched
-- ==== Proof.ReferenceValue.lean ====
module
public import proofs.«01_k».proof.Proof.Gen.ReferenceIdeal.Run
public import proofs.«01_k».proof.Proof.Towers
public import Idealize.ShloMosaic.Lib.Routing.Ops
public import Idealize.ShloMosaic.Lib.IdealHost
public import Idealize.ShloMosaic.PureOps.Reduce

/-! The reference's result, read at an entry: the scores of the rows that the indices pick. -/

@[expose] public section
set_option maxRecDepth 16384
noncomputable section
namespace Cert.ReferenceIdeal.Value
open Cert.ReferenceIdeal Cert.ReferenceIdeal.Gen
open Idealize.ShloMosaic Idealize.ShloMosaic.TcCoe Idealize.SL.Sem
open Cert.Towers

/-! The takes: an index that is a bit is in range, so the row it names is read. -/

/-- A bit is no negative index: it is left as it is. -/
theorem wrapped (w n : BitVec 32) (i : Fin 2) (h : w = BitVec.ofNat 32 i.val) :
    Scalar.select (IntOp.cmpi CmpIPredicate.slt w 0#32) (IntOp.addi w n) w = BitVec.ofNat 32 i.val := by
  subst h; fin_cases i <;> rfl

/-- The test that an index lies between zero and `hi` passes for a bit where `hi` is no less than one. -/
theorem in_range (f : Fin 1 → BitVec 32) (hi : BitVec 32) (i : Fin 2) (hf : f 0 = BitVec.ofNat 32 i.val)
    (hr : ∀ i : Fin 2, IntOp.cmpi CmpIPredicate.sle (BitVec.ofNat 32 i.val) hi = 1#1) :
    Finset.fold IntOp.andi (1#1) (fun x => IntOp.andi (IntOp.cmpi CmpIPredicate.sge (f x) 0#32)
      (IntOp.cmpi CmpIPredicate.sle (f x) hi)) Finset.univ = 1#1 := by
  have e : (fun x => IntOp.andi (IntOp.cmpi CmpIPredicate.sge (f x) 0#32) (IntOp.cmpi CmpIPredicate.sle (f x) hi))
      = fun _ => 1#1 := by
    funext x
    rw [Subsingleton.elim x 0, hf, hr i]
    fin_cases i <;> rfl
  rw [e]; rfl

/-- `jnp.take` of rows of sixteen: at an index that is a bit, the table's row of that number. -/
theorem take_read {N : ℕ} (d : GatherDims ⟨2, ![N, 16]⟩ S16384x1 S16384x16) (hoff : d.offsetDims = [1])
    (hcoll : d.collapsedSliceDims = [0]) (hob : d.operandBatchingDims = []) (hsim : d.startIndexMap = [0])
    (hivd : d.indexVectorDim = 1) (hN : 2 ≤ N) (hN' : N < 2 ^ 31) (hi : BitVec 32)
    (hr : ∀ i : Fin 2, IntOp.cmpi CmpIPredicate.sle (BitVec.ofNat 32 i.val) hi = 1#1)
    (T : FVec Ideal ⟨2, ![N, 16]⟩ .f32) (idx : IVec S16384x1 32) (b : Fin 16384) (j : Fin 16) (i : Fin 2)
    (h : idx (ix2 b 0) = BitVec.ofNat 32 i.val) :
    select (broadcastInDim S16384x16 ![0] bcast_S16384_S16384x16_0 (Host.reduce IntOp.andi
        (andi (cmpi .sge idx (broadcastInDim S16384x1 ![] bcast_S_S16384x1 (constantI S_ 32 0#32)))
          (cmpi .sle idx (broadcastInDim S16384x1 ![0, 1] bcast_S1x1_S16384x1_0_1
            (broadcastInDim S1x1 ![1] bcast_S1_S1x1_1 (constantI S1 32 hi)))))
        (constantI S_ 1 1#1) reducesTo_S16384x1_S16384_d1 h_S_)) (Host.gather d T idx)
      (broadcastInDim S16384x16 ![] bcast_S_S16384x16 (constant (F := Ideal) S_ .f32 0x7FC00000#32)) (ix2 b j)
      = T (ix2 ⟨i.val, by omega⟩ j) := by
  pointwise
  rw [in_range (fun x => idx (ix2 b x)) hi i h hr]
  exact Routing.gather_row d hoff hcoll hob hsim hivd T idx b j ⟨i.val, by omega⟩ h hN'

/-- The take of the genre tables, one index for each table: at indices that are bits, each table's row of that number. -/
theorem genre_gather (T : FVec Ideal S18x2x4 .f32) (idx : IVec S18x16384x1 32) (p : Fin 18) (b : Fin 16384) (j : Fin 4)
    (i : Fin 2) (h : idx (ix3 p b 0) = BitVec.ofNat 32 i.val) :
    Host.gather gather_S18x2x4_S18x16384x1_S18x16384x4_2_1_0_0_1_2_114 T idx (ix3 p b j) = T (ix3 p i j) := by
  unfold Host.gather
  refine congrArg T (funext fun a => Fin.ext ?_)
  match a with
  | ⟨0, _⟩ => exact (Nat.add_zero _).trans (Nat.zero_add p.val)
  | ⟨1, _⟩ =>
    have hs : gather_S18x2x4_S18x16384x1_S18x16384x4_2_1_0_0_1_2_114.siIdx (ix3 p b j) ⟨0, by decide⟩ = ix3 p b 0 := by
      funext c; refine Fin.ext ?_
      match c with
      | ⟨0, _⟩ => rfl
      | ⟨1, _⟩ => rfl
      | ⟨2, _⟩ => rfl
    show min (idx (gather_S18x2x4_S18x16384x1_S18x16384x4_2_1_0_0_1_2_114.siIdx (ix3 p b j) ⟨0, by decide⟩)).toInt.toNat 1 + 0 + 0
      = i.val
    rw [hs, h]
    fin_cases i <;> rfl
  | ⟨2, _⟩ => exact Nat.zero_add j.val

/-- The take of the genre tables with its range test. -/
theorem genre_read (T : FVec Ideal S18x2x4 .f32) (idx : IVec S18x16384x1 32) (p : Fin 18) (b : Fin 16384) (j : Fin 4)
    (i : Fin 2) (h : idx (ix3 p b 0) = BitVec.ofNat 32 i.val) :
    select (broadcastInDim S18x16384x4 ![0, 1] bcast_S18x16384_S18x16384x4_0_1 (Host.reduce IntOp.andi
        (andi (cmpi .sge idx (broadcastInDim S18x16384x1 ![] bcast_S_S18x16384x1 (constantI S_ 32 0#32)))
          (cmpi .sle idx (broadcastInDim S18x16384x1 ![0, 1, 2] bcast_S1x1x1_S18x16384x1_0_1_2
            (broadcastInDim S1x1x1 ![2] bcast_S1_S1x1x1_2 (constantI S1 32 1#32)))))
        (constantI S_ 1 1#1) reducesTo_S18x16384x1_S18x16384_d2 h_S_))
      (Host.gather gather_S18x2x4_S18x16384x1_S18x16384x4_2_1_0_0_1_2_114 T idx)
      (broadcastInDim S18x16384x4 ![] bcast_S_S18x16384x4 (constant (F := Ideal) S_ .f32 0x7FC00000#32)) (ix3 p b j)
      = T (ix3 p i j) := by
  pointwise
  rw [in_range (fun x => idx (ix3 p b x)) 1#32 i h (by decide)]
  exact genre_gather T idx p b j i h

variable (V : Valuation τ sig (Elt Ideal))

/-- What the program holds in an argument. -/
abbrev given (b : Ref sig .tc) : b.ty.Contents (Elt Ideal) := V (Proc.devRef .tc b)

variable (b : Fin 16384) (t : Fin 4 → Fin 2) (s : Fin 19 → Fin 2)
variable (ht : ∀ p, given V main_arg0 (ix2 b p) = BitVec.ofNat 32 (t p).val)
variable (hs : ∀ p, given V main_arg1 (ix2 b p) = BitVec.ofNat 32 (s p).val)

section
include ht

/-- The user column of an index within range is taken as it is. -/
theorem user_index : res_main_call0_v5 V (ix2 b 0) = BitVec.ofNat 32 (t 0).val := by
  pointwise [res_main_call0_v5, res_main_v1]
  exact wrapped _ _ _ (ht 0)

/-- The gender column of an index within range is taken as it is. -/
theorem gender_index : res_main_call1_v5 V (ix2 b 0) = BitVec.ofNat 32 (t 1).val := by
  pointwise [res_main_call1_v5, res_main_v4]
  exact wrapped _ _ _ (ht 1)

/-- The age column of an index within range is taken as it is. -/
theorem age_index : res_main_call2_v5 V (ix2 b 0) = BitVec.ofNat 32 (t 2).val := by
  pointwise [res_main_call2_v5, res_main_v7]
  exact wrapped _ _ _ (ht 2)

/-- The occupation column of an index within range is taken as it is. -/
theorem occupation_index : res_main_call3_v5 V (ix2 b 0) = BitVec.ofNat 32 (t 3).val := by
  pointwise [res_main_call3_v5, res_main_v10]
  exact wrapped _ _ _ (ht 3)

end

section
include hs

/-- The movie column of an index within range is taken as it is. -/
theorem movie_index : res_main_call6_v5 V (ix2 b 0) = BitVec.ofNat 32 (s 0).val := by
  pointwise [res_main_call6_v5, res_main_v26]
  exact wrapped _ _ _ (hs 0)

/-- The genre columns of indices within range are taken as they are. -/
theorem genre_index (p : Fin 18) : res_main_call5_v6 V (ix3 p b 0) = BitVec.ofNat 32 (s ⟨1 + p.val, by omega⟩).val := by
  pointwise [res_main_call5_v6, res_main_v22]
  exact wrapped _ _ _ (hs _)

end

/-- Four arrays of sixteen columns side by side, at an entry. -/
theorem four_read (x y z w : FVec Ideal S16384x16 .f32) (j : Fin 64) :
    concatenate S16384x64 1 [⟨S16384x16, x⟩, ⟨S16384x16, y⟩, ⟨S16384x16, z⟩, ⟨S16384x16, w⟩]
      concatenates_S16384x16_S16384x16_S16384x16_S16384x16_S16384x64_d1 (ix2 b j)
    = if h : j.val < 16 then x (ix2 b ⟨j.val, h⟩)
      else if h2 : j.val - 16 < 16 then y (ix2 b ⟨j.val - 16, h2⟩)
      else if h3 : j.val - 16 - 16 < 16 then z (ix2 b ⟨j.val - 16 - 16, h3⟩)
      else w (ix2 b ⟨j.val - 16 - 16 - 16, by omega⟩) := by
  pointwise

/-- An array of sixteen columns beside eighteen of four, at an entry. -/
theorem two_read (x : FVec Ideal S16384x16 .f32) (y : FVec Ideal S18x16384x4 .f32) (j : Fin 88) :
    concatenate S16384x88 1 [⟨S16384x16, x⟩, ⟨S16384x72, shapeCast _ (transpose S16384x18x4 [1, 0, 2] y
        transposes_S18x16384x4_S16384x18x4_1_0_2) shapeCasts_S16384x18x4_S16384x72⟩]
      concatenates_S16384x16_S16384x72_S16384x88_d1 (ix2 b j)
    = if h : j.val < 16 then x (ix2 b ⟨j.val, h⟩)
      else y (ix3 ⟨(j.val - 16) / 4, by omega⟩ b ⟨(j.val - 16) % 4, by omega⟩) := by
  pointwise

/-- A two-layer tower as the reference spells it, at an entry. -/
theorem tower_read {n : ℕ} (d : DotDims ⟨2, ![16384, n]⟩ ⟨2, ![n, 128]⟩ S16384x128)
    (hd : ∀ (x : FVec Ideal ⟨2, ![16384, n]⟩ .f32) (W : FVec Ideal ⟨2, ![n, 128]⟩ .f32) (h : Fin 128),
      (Host.dotGeneral d none x W : FVec Ideal S16384x128 .f32) (ix2 b h) = ∑ j, x (ix2 b j) * W (ix2 j h))
    (x : FVec Ideal ⟨2, ![16384, n]⟩ .f32) (W1 : FVec Ideal ⟨2, ![n, 128]⟩ .f32) (b1 : FVec Ideal S128 .f32)
    (W2 : FVec Ideal S128x128 .f32) (b2 : FVec Ideal S128 .f32) (l : Fin 128) :
    addf (Host.dotGeneral (φ₂ := .f32) dot_S16384x128_S128x128_S16384x128_1_0_0_1_n_n none
        (maximumf (addf (Host.dotGeneral d none x W1)
          (broadcastInDim S16384x128 ![0, 1] bcast_S1x128_S16384x128_0_1 (broadcastInDim S1x128 ![1] bcast_S128_S1x128_1 b1)))
          (broadcastInDim S16384x128 ![] bcast_S_S16384x128 (constant S_ .f32 0x00000000#32))) W2)
      (broadcastInDim S16384x128 ![0, 1] bcast_S1x128_S16384x128_0_1 (broadcastInDim S1x128 ![1] bcast_S128_S1x128_1 b2))
      (ix2 b l)
    = tower (fun j => x (ix2 b j)) W1 b1 W2 b2 l := by
  pointwise
  have hd' : ∀ h : Fin 128, Ideal.matmul d x W1 (fun _ => 0) (ix2 b h) = ∑ j, x (ix2 b j) * W1 (ix2 j h) := hd x W1
  simp only [hd']
  rfl

/-- The last layer as the reference spells it, at an entry. -/
theorem layer_read (x : FVec Ideal S16384x128 .f32) (W : FVec Ideal S128x6 .f32) (pb : FVec Ideal S6 .f32) (o : Fin 6) :
    addf (Host.dotGeneral (φ₂ := .f32) dot_S16384x128_S128x6_S16384x6_1_0_0_1_n_n none x W)
      (broadcastInDim S16384x6 ![0, 1] bcast_S1x6_S16384x6_0_1 (broadcastInDim S1x6 ![1] bcast_S6_S1x6_1 pb)) (ix2 b o)
      = layer (fun l => x (ix2 b l)) W pb o := by
  pointwise
  rfl

/-- The scores at row `b`, whose user bits are `t` and movie bits `s`. -/
def wanted (o : Fin 6) : EReal :=
  scores
    (tower (fun j => Features.user (α := EReal) (given V main_arg2) (given V main_arg3) (given V main_arg4)
      (given V main_arg5) (t (Features.userPart j)) j) (given V main_arg8) (given V main_arg9) (given V main_arg10)
      (given V main_arg11))
    (tower (fun j => Features.movie (α := EReal) (given V main_arg6) (given V main_arg7) (s (Features.moviePart j)) j)
      (given V main_arg12) (given V main_arg13) (given V main_arg14) (given V main_arg15))
    (given V main_arg16) (given V main_arg17) o

variable (o : Fin 6)
include ht hs

/-- The reference's result at row `b`, column `o`. -/
theorem result_read :
    addf (Host.dotGeneral (φ₂ := .f32) dot_S16384x128_S128x6_S16384x6_1_0_0_1_n_n none (res_main_v39 V) (given V main_arg16))
      (broadcastInDim S16384x6 ![0, 1] bcast_S1x6_S16384x6_0_1 (broadcastInDim S1x6 ![1] bcast_S6_S1x6_1 (given V main_arg17)))
      (ix2 b o) = wanted V t s o := by
  refine (layer_read b _ _ _ o).trans ?_
  rw [wanted, scores]
  refine congrArg (fun x => layer x _ _ o) (funext fun l => ?_)
  unfold res_main_v39
  refine (ValueIdx.mulf_apply _ _ _).trans (congrArg₂ (· * ·) ?_ ?_)
  · refine (tower_read b dot_S16384x64_S64x128_S16384x128_1_0_0_1_n_n (fun x W h => by pointwise) _ _ _ _ _ l).trans ?_
    refine congrArg (fun x => tower x _ _ _ _ l) (funext fun j => ?_)
    refine (four_read b _ _ _ _ j).trans ?_
    rw [Features.user]
    split_ifs with h1 h2 h3
    · rw [show Features.userPart j = 0 from Fin.ext (by show j.val / 16 = 0; omega)]
      exact take_read gather_S6050x16_S16384x1_S16384x16_1_0_n_n_0_1_116 rfl rfl rfl rfl rfl (by decide) (by decide) _
        (by decide) _ _ b _ (t 0) (user_index V b t ht)
    · rw [show Features.userPart j = 1 from Fin.ext (by show j.val / 16 = 1; omega)]
      exact take_read gather_S2x16_S16384x1_S16384x16_1_0_n_n_0_1_116 rfl rfl rfl rfl rfl (by decide) (by decide) _
        (by decide) _ _ b _ (t 1) (gender_index V b t ht)
    · rw [show Features.userPart j = 2 from Fin.ext (by show j.val / 16 = 2; omega)]
      exact take_read gather_S7x16_S16384x1_S16384x16_1_0_n_n_0_1_116 rfl rfl rfl rfl rfl (by decide) (by decide) _
        (by decide) _ _ b _ (t 2) (age_index V b t ht)
    · rw [show Features.userPart j = 3 from Fin.ext (by show j.val / 16 = 3; omega)]
      exact take_read gather_S25x16_S16384x1_S16384x16_1_0_n_n_0_1_116 rfl rfl rfl rfl rfl (by decide) (by decide) _
        (by decide) _ _ b _ (t 3) (occupation_index V b t ht)
  · refine (tower_read b dot_S16384x88_S88x128_S16384x128_1_0_0_1_n_n (fun x W h => by pointwise) _ _ _ _ _ l).trans ?_
    refine congrArg (fun x => tower x _ _ _ _ l) (funext fun j => ?_)
    refine (two_read b _ _ j).trans ?_
    rw [Features.movie, Features.moviePart]
    split_ifs with h1
    · exact take_read gather_S4000x16_S16384x1_S16384x16_1_0_n_n_0_1_116 rfl rfl rfl rfl rfl (by decide) (by decide) _
        (by decide) _ _ b _ (s 0) (movie_index V b s hs)
    · exact genre_read _ _ _ b _ _ (genre_index V b s hs _)

end Cert.ReferenceIdeal.Value
-- ==== Proof.Precondition.lean ====
module
public import proofs.«01_k».proof.Proof.Gen.Pre_pre
public import proofs.«01_k».proof.Proof.Towers
public import Idealize.ShloMosaic.Lib.ReduceAll
public import Idealize.ShloMosaic.Lib.WordCmp

/-! What the precondition says of the arguments: every index is a bit, and row zero of each table and the first layers' weights
    are finite. -/

@[expose] public section
noncomputable section
namespace Cert.Precondition
open Cert.Pre_pre Cert.Pre_pre.Gen
open Idealize.ShloMosaic
open Cert.Towers

/-- The test that a word is no less than zero and less than two passes for bits alone. -/
theorem bit_of_test (w : BitVec 32)
    (h : IntOp.andi (IntOp.cmpi CmpIPredicate.sge w 0#32) (IntOp.cmpi CmpIPredicate.slt w 2#32) = 1#1) :
    ∃ i : Fin 2, w = BitVec.ofNat 32 i.val := by
  have hw : w.toNat < 2 := by
    revert h; word_cmp
  exact ⟨⟨w.toNat, hw⟩, by simp⟩

/-- A number whose absolute value lies below another is finite. -/
theorem finite_of_test {S : Shape} (x : FVec Ideal S .f32) (hb : S_.BroadcastsInDim S ![]) (i : S.Idx)
    (h : cmpf .olt (Host.absf x) (broadcastInDim S ![] hb (constant S_ .f32 0x7F800000#32)) i = 1#1) : Finite (x i) := by
  pointwise at h
  have hl : max (x i) (-(x i)) < Ideal.ofBits FTy.f32 2139095040#32 := by
    by_contra hn
    rw [show decide (FloatOps.absf (x i) < Ideal.ofBits FTy.f32 2139095040#32) = false from decide_eq_false hn] at h
    exact absurd h (by decide)
  obtain ⟨h1, h2⟩ := max_lt_iff.1 hl
  refine ⟨fun e => ?_, ne_top_of_lt h1⟩
  rw [e] at h2
  exact absurd rfl (ne_top_of_lt h2)

/-- Both masks of a conjunction that is set are. -/
theorem both_set (x y : IVec S_ 1) (e : andi x y ix0 = 1#1) : x ix0 = 1#1 ∧ y ix0 = 1#1 := IntOp.andi_eq_one.1 e

/-- Where the test of a whole array passes, every entry is a bit. -/
theorem bits_of_mask {S : Shape} {ds : List (Fin S.rank)} (h : S.ReducesTo ds S_) (x : IVec S 32)
    (hb : S_.BroadcastsInDim S ![])
    (e : Host.reduce IntOp.andi (andi (cmpi .sge x (broadcastInDim S ![] hb (constantI S_ 32 0#32)))
      (cmpi .slt x (broadcastInDim S ![] hb (constantI S_ 32 2#32)))) (constantI S_ 1 1#1) h h_S_ ix0 = 1#1) (i : S.Idx) :
    ∃ k : Fin 2, x i = BitVec.ofNat 32 k.val := by
  have k := Host.reduce_andi_all _ _ h h_S_ ix0 e i
  pointwise at k
  exact bit_of_test _ k

/-- Where the test of a whole array passes, every entry is finite. -/
theorem finite_of_mask {S : Shape} {ds : List (Fin S.rank)} (h : S.ReducesTo ds S_) (x : FVec Ideal S .f32)
    (hb : S_.BroadcastsInDim S ![])
    (e : Host.reduce IntOp.andi (cmpf .olt (Host.absf x) (broadcastInDim S ![] hb (constant S_ .f32 0x7F800000#32)))
      (constantI S_ 1 1#1) h h_S_ ix0 = 1#1) (i : S.Idx) : Finite (x i) :=
  finite_of_test x hb i (Host.reduce_andi_all _ _ h h_S_ ix0 e i)

/-- Row zero of a table, where the test of that slice passes. -/
theorem row_of_mask {n : ℕ} (T : FVec Ideal ⟨2, ![n, 16]⟩ .f32) (hs : (⟨2, ![n, 16]⟩ : Shape).Slices ![0, 0] S1x16)
    (hn : 0 < n)
    (e : Host.reduce IntOp.andi (cmpf .olt (Host.absf (extractStridedSlice S1x16 ![0, 0] T hs))
      (broadcastInDim S1x16 ![] bcast_S_S1x16 (constant S_ .f32 0x7F800000#32)))
      (constantI S_ 1 1#1) reducesTo_S1x16_S_d0_1 h_S_ ix0 = 1#1) (j : Fin 16) : Finite (T (ix2 ⟨0, hn⟩ j)) := by
  have k := finite_of_mask reducesTo_S1x16_S_d0_1 _ bcast_S_S1x16 e (ix2 0 j)
  have r : extractStridedSlice S1x16 ![0, 0] T hs (ix2 0 j) = T (ix2 ⟨0, hn⟩ j) := by
    refine congrArg T (funext fun a => Fin.ext ?_)
    match a with
    | ⟨0, _⟩ => rfl
    | ⟨1, _⟩ => exact Nat.zero_add j.val
  exact r ▸ k

/-- Row zero of each genre table, where the test of that slice passes. -/
theorem genre_of_mask (T : FVec Ideal S18x2x4 .f32)
    (e : Host.reduce IntOp.andi (cmpf .olt (Host.absf (extractStridedSlice S18x1x4 ![0, 0, 0] T slices_S18x2x4_S18x1x4_0_0_0))
      (broadcastInDim S18x1x4 ![] bcast_S_S18x1x4 (constant S_ .f32 0x7F800000#32)))
      (constantI S_ 1 1#1) reducesTo_S18x1x4_S_d0_1_2 h_S_ ix0 = 1#1) (p : Fin 18) (j : Fin 4) : Finite (T (ix3 p 0 j)) := by
  have k := finite_of_mask reducesTo_S18x1x4_S_d0_1_2 _ bcast_S_S18x1x4 e (ix3 p 0 j)
  have r : extractStridedSlice S18x1x4 ![0, 0, 0] T slices_S18x2x4_S18x1x4_0_0_0 (ix3 p 0 j) = T (ix3 p 0 j) := by
    refine congrArg T (funext fun a => Fin.ext ?_)
    match a with
    | ⟨0, _⟩ => exact Nat.zero_add p.val
    | ⟨1, _⟩ => rfl
    | ⟨2, _⟩ => exact Nat.zero_add j.val
  exact r ▸ k

section
variable (a0 : IVec S16384x4 32) (a1 : IVec S16384x19 32) (a2 : FVec Ideal S6050x16 .f32) (a3 : FVec Ideal S2x16 .f32)
  (a4 : FVec Ideal S7x16 .f32) (a5 : FVec Ideal S25x16 .f32) (a6 : FVec Ideal S4000x16 .f32) (a7 : FVec Ideal S18x2x4 .f32)
  (a8 : FVec Ideal S64x128 .f32) (a9 : FVec Ideal S128 .f32) (a10 : FVec Ideal S128x128 .f32) (a11 : FVec Ideal S128 .f32)
  (a12 : FVec Ideal S88x128 .f32) (a13 : FVec Ideal S128 .f32) (a14 : FVec Ideal S128x128 .f32) (a15 : FVec Ideal S128 .f32)
  (a16 : FVec Ideal S128x6 .f32) (a17 : FVec Ideal S6 .f32)

/-- What the precondition gives. -/
structure Given : Prop where
  user_bit : ∀ i, ∃ k : Fin 2, a0 i = BitVec.ofNat 32 k.val
  movie_bit : ∀ i, ∃ k : Fin 2, a1 i = BitVec.ofNat 32 k.val
  user_row : ∀ j : Fin 64, Finite (Features.user (α := EReal) a2 a3 a4 a5 0 j)
  movie_row : ∀ j : Fin 88, Finite (Features.movie (α := EReal) a6 a7 0 j)
  user_weight : ∀ i, Finite (a8 i)
  movie_weight : ∀ i, Finite (a12 i)

/-- The precondition's meaning. -/
theorem given (h : fn (F := Ideal) a0 a1 a2 a3 a4 a5 a6 a7 a8 a9 a10 a11 a12 a13 a14 a15 a16 a17 = fun _ => 1#1) :
    Given a0 a1 a2 a3 a4 a5 a6 a7 a8 a12 := by
  have e := congrFun h ix0
  unfold fn fn_part1 fn_part2 fn_part3 at e
  obtain ⟨e, m12⟩ := both_set _ _ e
  obtain ⟨e, m8⟩ := both_set _ _ e
  obtain ⟨e, m7⟩ := both_set _ _ e
  obtain ⟨e, m6⟩ := both_set _ _ e
  obtain ⟨e, m5⟩ := both_set _ _ e
  obtain ⟨e, m4⟩ := both_set _ _ e
  obtain ⟨e, m3⟩ := both_set _ _ e
  obtain ⟨e, m2⟩ := both_set _ _ e
  obtain ⟨m0, m1⟩ := both_set _ _ e
  refine ⟨bits_of_mask _ _ _ m0, bits_of_mask _ _ _ m1, fun j => ?_, fun j => ?_, finite_of_mask _ _ _ m8,
    finite_of_mask _ _ _ m12⟩
  · unfold Features.user
    split_ifs
    · exact row_of_mask a2 _ (by decide) m2 _
    · exact row_of_mask a3 _ (by decide) m3 _
    · exact row_of_mask a4 _ (by decide) m4 _
    · exact row_of_mask a5 _ (by decide) m5 _
  · unfold Features.movie
    split_ifs
    · exact row_of_mask a6 _ (by decide) m6 _
    · exact genre_of_mask a7 m7 _ _

end
end Cert.Precondition
-- ==== Proof.Agreement.lean ====
module
public import proofs.«01_k».proof.Defs
public import proofs.«01_k».proof.Proof.KernelValue
public import proofs.«01_k».proof.Proof.ReferenceValue
public import proofs.«01_k».proof.Proof.Precondition

/-! The kernel's result is the reference's where the precondition holds. -/

@[expose] public section
set_option maxRecDepth 16384
noncomputable section
namespace Cert.Agreement
open Idealize.ShloMosaic Idealize.ShloMosaic.TcCoe Idealize.SL.Sem
open Cert.KernelIdeal.Packed (arg)
open Cert.ReferenceIdeal.Value (given)

/-- The reference's result, of the contents it is launched with. -/
abbrev reference (V : Valuation ReferenceIdeal.τ ReferenceIdeal.sig (Elt Ideal)) : FVec Ideal ReferenceIdeal.S16384x6 .f32 :=
  addf (Host.dotGeneral (φ₁ := .f32) (φ₂ := .f32) ReferenceIdeal.dot_S16384x128_S128x6_S16384x6_1_0_0_1_n_n none
      (ReferenceIdeal.Value.res_main_v39 V) (given V ReferenceIdeal.main_arg16))
    (broadcastInDim ReferenceIdeal.S16384x6 ![0, 1] ReferenceIdeal.Gen.bcast_S1x6_S16384x6_0_1
      (broadcastInDim ReferenceIdeal.S1x6 ![1] ReferenceIdeal.Gen.bcast_S6_S1x6_1 (given V ReferenceIdeal.main_arg17)))

/-- The two programs hold the same arguments. -/
structure Same (V : Valuation KernelIdeal.τ KernelIdeal.sig (Elt Ideal))
    (V' : Valuation ReferenceIdeal.τ ReferenceIdeal.sig (Elt Ideal)) : Prop where
  a0 : given V' ReferenceIdeal.main_arg0 = arg V KernelIdeal.main_arg0
  a1 : given V' ReferenceIdeal.main_arg1 = arg V KernelIdeal.main_arg1
  a2 : given V' ReferenceIdeal.main_arg2 = arg V KernelIdeal.main_arg2
  a3 : given V' ReferenceIdeal.main_arg3 = arg V KernelIdeal.main_arg3
  a4 : given V' ReferenceIdeal.main_arg4 = arg V KernelIdeal.main_arg4
  a5 : given V' ReferenceIdeal.main_arg5 = arg V KernelIdeal.main_arg5
  a6 : given V' ReferenceIdeal.main_arg6 = arg V KernelIdeal.main_arg6
  a7 : given V' ReferenceIdeal.main_arg7 = arg V KernelIdeal.main_arg7
  a8 : given V' ReferenceIdeal.main_arg8 = arg V KernelIdeal.main_arg8
  a9 : given V' ReferenceIdeal.main_arg9 = arg V KernelIdeal.main_arg9
  a10 : given V' ReferenceIdeal.main_arg10 = arg V KernelIdeal.main_arg10
  a11 : given V' ReferenceIdeal.main_arg11 = arg V KernelIdeal.main_arg11
  a12 : given V' ReferenceIdeal.main_arg12 = arg V KernelIdeal.main_arg12
  a13 : given V' ReferenceIdeal.main_arg13 = arg V KernelIdeal.main_arg13
  a14 : given V' ReferenceIdeal.main_arg14 = arg V KernelIdeal.main_arg14
  a15 : given V' ReferenceIdeal.main_arg15 = arg V KernelIdeal.main_arg15
  a16 : given V' ReferenceIdeal.main_arg16 = arg V KernelIdeal.main_arg16
  a17 : given V' ReferenceIdeal.main_arg17 = arg V KernelIdeal.main_arg17

/-- Of the same arguments both programs want the same scores. -/
theorem wanted_eq {V : Valuation KernelIdeal.τ KernelIdeal.sig (Elt Ideal)}
    {V' : Valuation ReferenceIdeal.τ ReferenceIdeal.sig (Elt Ideal)} (e : Same V V') (t : Fin 4 → Fin 2)
    (s : Fin 19 → Fin 2) (o : Fin 6) : KernelIdeal.Stored.target V t s o = ReferenceIdeal.Value.wanted V' t s o := by
  rw [ReferenceIdeal.Value.wanted, e.a2, e.a3, e.a4, e.a5, e.a6, e.a7, e.a8, e.a9, e.a10, e.a11, e.a12, e.a13, e.a14, e.a15,
    e.a16, e.a17]
  rfl

/-- The kernel's result is the reference's. -/
theorem result_eq (m : (ℓ : Loc KernelIdeal.nD KernelIdeal.τ KernelIdeal.sig) → Buf (Elt Ideal) ℓ) (c : Dev KernelIdeal.nD)
    (V' : Valuation ReferenceIdeal.τ ReferenceIdeal.sig (Elt Ideal)) (e : Same (KernelIdeal.Launched.launched m c) V')
    (g : Precondition.Given (m ((c.tc : Thread KernelIdeal.nD KernelIdeal.τ).loc KernelIdeal.main_arg0))
      (m ((c.tc : Thread KernelIdeal.nD KernelIdeal.τ).loc KernelIdeal.main_arg1))
      (m ((c.tc : Thread KernelIdeal.nD KernelIdeal.τ).loc KernelIdeal.main_arg2))
      (m ((c.tc : Thread KernelIdeal.nD KernelIdeal.τ).loc KernelIdeal.main_arg3))
      (m ((c.tc : Thread KernelIdeal.nD KernelIdeal.τ).loc KernelIdeal.main_arg4))
      (m ((c.tc : Thread KernelIdeal.nD KernelIdeal.τ).loc KernelIdeal.main_arg5))
      (m ((c.tc : Thread KernelIdeal.nD KernelIdeal.τ).loc KernelIdeal.main_arg6))
      (m ((c.tc : Thread KernelIdeal.nD KernelIdeal.τ).loc KernelIdeal.main_arg7))
      (m ((c.tc : Thread KernelIdeal.nD KernelIdeal.τ).loc KernelIdeal.main_arg8))
      (m ((c.tc : Thread KernelIdeal.nD KernelIdeal.τ).loc KernelIdeal.main_arg12))) :
    KernelIdeal.Launched.result m c = reference V' := by
  funext i
  obtain ⟨b, o, rfl⟩ : ∃ (b : Fin 16384) (o : Fin 6), i = ix2 b o := ⟨i 0, i 1, by funext a; fin_cases a <;> rfl⟩
  choose t ht using fun p : Fin 4 => g.user_bit (ix2 b p)
  choose s hs using fun p : Fin 19 => g.movie_bit (ix2 b p)
  refine (KernelIdeal.Launched.turned_read _ b o).trans ?_
  refine (KernelIdeal.Stored.stored_eq (KernelIdeal.Launched.launched m c) o b t s ht hs g.user_row g.movie_row
    (fun j h => g.user_weight (ix2 j h)) (fun j h => g.movie_weight (ix2 j h))).trans ?_
  refine (wanted_eq e t s o).trans ?_
  exact (ReferenceIdeal.Value.result_read V' b t s (fun p => (congrFun e.a0 (ix2 b p)).trans (ht p))
    (fun p => (congrFun e.a1 (ix2 b p)).trans (hs p)) o).symm

end Cert.Agreement
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_pre
public import proofs.«01_k».proof.Proof.Gen.ReferenceIdeal.Run
public import proofs.«01_k».proof.Proof.KernelLaunch
public import proofs.«01_k».proof.Proof.Agreement
public import Idealize.ShloMosaic.Adequacy
public import Idealize.ShloMosaic.Init

@[expose] public section

noncomputable section

namespace Cert.Proof

open Idealize.ShloMosaic Idealize.ShloMosaic.TcCoe Idealize.SL.Sem

/-- The reference runs, keeps its arguments, and has no semaphore. -/
theorem reference_frame : quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The kernel over the extended reals runs to the reference's result. -/
theorem agrees : algebraic_KernelIdeal_ReferenceIdeal_pre_pre := by
  intro m g m' g' hp hm
  refine ⟨fun c => Cert.KernelIdeal.Launched.result m c, Cert.KernelIdeal.Launched.value m g, ?_⟩
  refine (θ_run Cert.ReferenceIdeal.defs _ _).mono (fun r h c => ⟨(h c).1.trans ?_, (h c).2⟩)
    (Cert.ReferenceIdeal.Value.run (F := Ideal) m' g')
  obtain ⟨h0, h1, h2, h3, h4, h5, h6, h7, h8, h9, h10, h11, h12, h13, h14, h15, h16, h17⟩ := hm c
  exact (Agreement.result_eq m c (StableHlo.launchContents m' c)
    ⟨h0, h1, h2, h3, h4, h5, h6, h7, h8, h9, h10, h11, h12, h13, h14, h15, h16, h17⟩
    (Precondition.given _ _ _ _ _ _ _ _ _ _ _ _ _ _ _ _ _ _ (hp c))).symm

/-- Every claim of the certificate. -/
theorem claim : Cert.Claim :=
  ⟨Cert.Kernel.Gen.facts, Cert.KernelIdeal.Gen.facts, Cert.ReferenceIdeal.Gen.facts, Cert.Pre_pre.Gen.facts,
    fun m g _ => Cert.Kernel.Launched.frame m g, fun m g _ => Cert.KernelIdeal.Launched.frame m g,
    fun m g _ => Cert.KernelIdeal.Launched.frame m g, reference_frame, fun m g _ => reference_frame m g trivial,
    trivial, agrees⟩

end Cert.Proof

end
